-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_finite [hPre_routed_finite : Cert.Pre_routed_finite.Facts] (m : (ℓ : Loc Cert.KernelIdeal.nD Cert.KernelIdeal.τ Cert.KernelIdeal.sig) → Buf (Elt Ideal) ℓ) : Prop :=
  ∀ c : Dev Cert.KernelIdeal.nD,
    (Cert.Pre_routed_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_finite [hPre_routed_finite : Cert.Pre_routed_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routed_finite [hKernelIdeal : Cert.KernelIdeal.Facts] [hPre_routed_finite : Cert.Pre_routed_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed_finite [hReferenceIdeal : Cert.ReferenceIdeal.Facts] [hPre_routed_finite : Cert.Pre_routed_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_routed_finite [hKernelIdeal : Cert.KernelIdeal.Facts] [hReferenceIdeal : Cert.ReferenceIdeal.Facts] [hPre_routed_finite : Cert.Pre_routed_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_routed_finite : Cert.Pre_routed_finite.Facts),
    quiescent_Kernel (hKernel := hKernel)
    ∧ quiescent_KernelIdeal (hKernelIdeal := hKernelIdeal)
    ∧ quiescent_KernelIdeal_pre_routed_finite (hKernelIdeal := hKernelIdeal) (hPre_routed_finite := hPre_routed_finite)
    ∧ quiescent_ReferenceIdeal (hReferenceIdeal := hReferenceIdeal)
    ∧ quiescent_ReferenceIdeal_pre_routed_finite (hReferenceIdeal := hReferenceIdeal) (hPre_routed_finite := hPre_routed_finite)
    ∧ preserves_Kernel_KernelIdeal
    ∧ algebraic_KernelIdeal_ReferenceIdeal_pre_routed_finite (hKernelIdeal := hKernelIdeal) (hReferenceIdeal := hReferenceIdeal) (hPre_routed_finite := hPre_routed_finite)
-- ==== Pre_routed_finite.lean ====
abbrev S4x2048x768 : Shape := ⟨3, ![4, 2048, 768]⟩
abbrev S8x768x768 : Shape := ⟨3, ![8, 768, 768]⟩
abbrev S8x768 : Shape := ⟨2, ![8, 768]⟩
abbrev S8 : Shape := ⟨1, ![8]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S4x2048x768 .f32) (main_arg1 : FVec F S8x768x768 .f32) (main_arg2 : FVec F S8x768 .f32) (main_arg3 : FVec F S8x768x768 .f32) (main_arg4 : FVec F S8x768 .f32) (main_arg5 : FVec F S8x768 .f32) (main_arg6 : FVec F S8 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S8x768 .f32 := Host.absf main_arg5
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  let main_v9 : FVec F S8 .f32 := Host.absf main_arg6
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S4x2048x768 : Shape := ⟨3, ![4, 2048, 768]⟩
abbrev S8x768x768 : Shape := ⟨3, ![8, 768, 768]⟩
abbrev S8x768 : Shape := ⟨2, ![8, 768]⟩
abbrev S8 : Shape := ⟨1, ![8]⟩
abbrev S8192x768 : Shape := ⟨2, ![8192, 768]⟩
abbrev S8x1x768 : Shape := ⟨3, ![8, 1, 768]⟩
abbrev S1x8 : Shape := ⟨2, ![1, 8]⟩
abbrev S256x768 : Shape := ⟨2, ![256, 768]⟩
abbrev S256x8 : Shape := ⟨2, ![256, 8]⟩
abbrev S256 : Shape := ⟨1, ![256]⟩
abbrev S256x1 : Shape := ⟨2, ![256, 1]⟩
abbrev S1x768x768 : Shape := ⟨3, ![1, 768, 768]⟩
abbrev S768x768 : Shape := ⟨2, ![768, 768]⟩
abbrev S1x1x768 : Shape := ⟨3, ![1, 1, 768]⟩
abbrev S1x768 : Shape := ⟨2, ![1, 768]⟩

abbrev nBuf : Space → Nat
  | .hbm => 13
  | .vmem => 10
  | .smem => 0
  | _ => 0

abbrev bufTy : (tb : Table) → Fin (tcTables nBuf tb) → BufTy
  | .hbm, ⟨0, _⟩ => ⟨S4x2048x768, .f32⟩
  | .hbm, ⟨1, _⟩ => ⟨S8x768x768, .f32⟩
  | .hbm, ⟨2, _⟩ => ⟨S8x768, .f32⟩
  | .hbm, ⟨3, _⟩ => ⟨S8x768x768, .f32⟩
  | .hbm, ⟨4, _⟩ => ⟨S8x768, .f32⟩
  | .hbm, ⟨5, _⟩ => ⟨S8x768, .f32⟩
  | .hbm, ⟨6, _⟩ => ⟨S8, .f32⟩
  | .hbm, ⟨7, _⟩ => ⟨S8192x768, .f32⟩
  | .hbm, ⟨8, _⟩ => ⟨S8x1x768, .f32⟩
  | .hbm, ⟨9, _⟩ => ⟨S8x1x768, .f32⟩
  | .hbm, ⟨10, _⟩ => ⟨S1x8, .f32⟩
  | .hbm, ⟨11, _⟩ => ⟨S8192x768, .f32⟩
  | .hbm, ⟨12, _⟩ => ⟨S4x2048x768, .f32⟩
  | .local _ .vmem, ⟨0, _⟩ => ⟨S256x768, .f32⟩
  | .local _ .vmem, ⟨1, _⟩ => ⟨S256x768, .f32⟩
  | .local _ .vmem, ⟨2, _⟩ => ⟨S8x768x768, .f32⟩
  | .local _ .vmem, ⟨3, _⟩ => ⟨S8x1x768, .f32⟩
  | .local _ .vmem, ⟨4, _⟩ => ⟨S8x768x768, .f32⟩
  | .local _ .vmem, ⟨5, _⟩ => ⟨S8x1x768, .f32⟩
  | .local _ .vmem, ⟨6, _⟩ => ⟨S8x768, .f32⟩
  | .local _ .vmem, ⟨7, _⟩ => ⟨S1x8, .f32⟩
  | .local _ .vmem, ⟨8, _⟩ => ⟨S256x768, .f32⟩
  | .local _ .vmem, ⟨9, _⟩ => ⟨S256x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x2048x768 : Shape := ⟨3, ![4, 2048, 768]⟩
abbrev S8x768x768 : Shape := ⟨3, ![8, 768, 768]⟩
abbrev S8x768 : Shape := ⟨2, ![8, 768]⟩
abbrev S8 : Shape := ⟨1, ![8]⟩
abbrev S4x2048x8 : Shape := ⟨3, ![4, 2048, 8]⟩
abbrev S1x1x8 : Shape := ⟨3, ![1, 1, 8]⟩
abbrev S4x2048x2 : Shape := ⟨3, ![4, 2048, 2]⟩
abbrev S_ : Shape := ⟨0, ![]⟩
abbrev S4x2048 : Shape := ⟨2, ![4, 2048]⟩
abbrev S4x2048x1 : Shape := ⟨3, ![4, 2048, 1]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S1x1x768 : Shape := ⟨3, ![1, 1, 768]⟩

abbrev nBuf : Space → Nat
  | .hbm => 285
  | .vmem => 0
  | .smem => 0
  | _ => 0

abbrev hbmTy0_0 (i : Nat) : BufTy := match i % 128 with
  | 0 => ⟨S4x2048x768, .f32⟩
  | 1 => ⟨S8x768x768, .f32⟩
  | 2 => ⟨S8x768, .f32⟩
  | 3 => ⟨S8x768x768, .f32⟩
  | 4 => ⟨S8x768, .f32⟩
  | 5 => ⟨S8x768, .f32⟩
  | 6 => ⟨S8, .f32⟩
  | 7 => ⟨S4x2048x8, .f32⟩
  | 8 => ⟨S1x1x8, .f32⟩
  | 9 => ⟨S4x2048x8, .f32⟩
  | 10 => ⟨S4x2048x8, .f32⟩
  | 11 => ⟨S4x2048x2, .f32⟩
  | 12 => ⟨S4x2048x2, .i32⟩
  | 13 => ⟨S_, .f32⟩
  | 14 => ⟨S4x2048, .f32⟩
  | 15 => ⟨S_, .f32⟩
  | 16 => ⟨S4x2048, .f32⟩
  | 17 => ⟨S4x2048, .f32⟩
  | 18 => ⟨S4x2048x1, .f32⟩
  | 19 => ⟨S4x2048x2, .f32⟩
  | 20 => ⟨S4x2048x2, .f32⟩
  | 21 => ⟨S4x2048x2, .f32⟩
  | 22 => ⟨S_, .f32⟩
  | 23 => ⟨S4x2048, .f32⟩
  | 24 => ⟨S4x2048x1, .f32⟩
  | 25 => ⟨S4x2048x2, .f32⟩
  | 26 => ⟨S4x2048x2, .f32⟩
  | 27 => ⟨S_, .f32⟩
  | 28 => ⟨S4x2048x768, .f32⟩
  | 29 => ⟨S1x768x768, .f32⟩
  | 30 => ⟨S768x768, .f32⟩
  | 31 => ⟨S4x2048x768, .f32⟩
  | 32 => ⟨S1x768, .f32⟩
  | 33 => ⟨S768, .f32⟩
  | 34 => ⟨S1x1x768, .f32⟩
  | 35 => ⟨S4x2048x768, .f32⟩
  | 36 => ⟨S4x2048x768, .f32⟩
  | 37 => ⟨S_, .f32⟩
  | 38 => ⟨S4x2048x768, .f32⟩
  | 39 => ⟨S4x2048x768, .f32⟩
  | 40 => ⟨S1x768x768, .f32⟩
  | 41 => ⟨S768x768, .f32⟩
  | 42 => ⟨S4x2048x768, .f32⟩
  | 43 => ⟨S1x768, .f32⟩
  | 44 => ⟨S768, .f32⟩
  | 45 => ⟨S1x1x768, .f32⟩
  | 46 => ⟨S4x2048x768, .f32⟩
  | 47 => ⟨S4x2048x768, .f32⟩
  | 48 => ⟨S_, .i32⟩
  | 49 => ⟨S4x2048x2, .i32⟩
  | 50 => ⟨S4x2048x2, .i1⟩
  | 51 => ⟨S_, .f32⟩
  | 52 => ⟨S_, .f32⟩
  | 53 => ⟨S4x2048x2, .f32⟩
  | 54 => ⟨S4x2048x2, .f32⟩
  | 55 => ⟨S_, .f32⟩
  | 56 => ⟨S4x2048, .f32⟩
  | 57 => ⟨S4x2048x1, .f32⟩
  | 58 => ⟨S4x2048x768, .f32⟩
  | 59 => ⟨S4x2048x768, .f32⟩
  | 60 => ⟨S4x2048x768, .f32⟩
  | 61 => ⟨S1x768x768, .f32⟩
  | 62 => ⟨S768x768, .f32⟩
  | 63 => ⟨S4x2048x768, .f32⟩
  | 64 => ⟨S1x768, .f32⟩
  | 65 => ⟨S768, .f32⟩
  | 66 => ⟨S1x1x768, .f32⟩
  | 67 => ⟨S4x2048x768, .f32⟩
  | 68 => ⟨S4x2048x768, .f32⟩
  | 69 => ⟨S_, .f32⟩
  | 70 => ⟨S4x2048x768, .f32⟩
  | 71 => ⟨S4x2048x768, .f32⟩
  | 72 => ⟨S1x768x768, .f32⟩
  | 73 => ⟨S768x768, .f32⟩
  | 74 => ⟨S4x2048x768, .f32⟩
  | 75 => ⟨S1x768, .f32⟩
  | 76 => ⟨S768, .f32⟩
  | 77 => ⟨S1x1x768, .f32⟩
  | 78 => ⟨S4x2048x768, .f32⟩
  | 79 => ⟨S4x2048x768, .f32⟩
  | 80 => ⟨S_, .i32⟩
  | 81 => ⟨S4x2048x2, .i32⟩
  | 82 => ⟨S4x2048x2, .i1⟩
  | 83 => ⟨S_, .f32⟩
  | 84 => ⟨S_, .f32⟩
  | 85 => ⟨S4x2048x2, .f32⟩
  | 86 => ⟨S4x2048x2, .f32⟩
  | 87 => ⟨S_, .f32⟩
  | 88 => ⟨S4x2048, .f32⟩
  | 89 => ⟨S4x2048x1, .f32⟩
  | 90 => ⟨S4x2048x768, .f32⟩
  | 91 => ⟨S4x2048x768, .f32⟩
  | 92 => ⟨S4x2048x768, .f32⟩
  | 93 => ⟨S1x768x768, .f32⟩
  | 94 => ⟨S768x768, .f32⟩
  | 95 => ⟨S4x2048x768, .f32⟩
  | 96 => ⟨S1x768, .f32⟩
  | 97 => ⟨S768, .f32⟩
  | 98 => ⟨S1x1x768, .f32⟩
  | 99 => ⟨S4x2048x768, .f32⟩
  | 100 => ⟨S4x2048x768, .f32⟩
  | 101 => ⟨S_, .f32⟩
  | 102 => ⟨S4x2048x768, .f32⟩
  | 103 => ⟨S4x2048x768, .f32⟩
  | 104 => ⟨S1x768x768, .f32⟩
  | 105 => ⟨S768x768, .f32⟩
  | 106 => ⟨S4x2048x768, .f32⟩
  | 107 => ⟨S1x768, .f32⟩
  | 108 => ⟨S768, .f32⟩
  | 109 => ⟨S1x1x768, .f32⟩
  | 110 => ⟨S4x2048x768, .f32⟩
  | 111 => ⟨S4x2048x768, .f32⟩
  | 112 => ⟨S_, .i32⟩
  | 113 => ⟨S4x2048x2, .i32⟩
  | 114 => ⟨S4x2048x2, .i1⟩
  | 115 => ⟨S_, .f32⟩
  | 116 => ⟨S_, .f32⟩
  | 117 => ⟨S4x2048x2, .f32⟩
  | 118 => ⟨S4x2048x2, .f32⟩
  | 119 => ⟨S_, .f32⟩
  | 120 => ⟨S4x2048, .f32⟩
  | 121 => ⟨S4x2048x1, .f32⟩
  | 122 => ⟨S4x2048x768, .f32⟩
  | 123 => ⟨S4x2048x768, .f32⟩
  | 124 => ⟨S4x2048x768, .f32⟩
  | 125 => ⟨S1x768x768, .f32⟩
  | 126 => ⟨S768x768, .f32⟩
  | 127 => ⟨S4x2048x768, .f32⟩
  | _ => ⟨S4x2048x768, .f32⟩

abbrev hbmTy0_1 (i : Nat) : BufTy := match i % 128 with
  | 0 => ⟨S1x768, .f32⟩
  | 1 => ⟨S768, .f32⟩
  | 2 => ⟨S1x1x768, .f32⟩
  | 3 => ⟨S4x2048x768, .f32⟩
  | 4 => ⟨S4x2048x768, .f32⟩
  | 5 => ⟨S_, .f32⟩
  | 6 => ⟨S4x2048x768, .f32⟩
  | 7 => ⟨S4x2048x768, .f32⟩
  | 8 => ⟨S1x768x768, .f32⟩
  | 9 => ⟨S768x768, .f32⟩
  | 10 => ⟨S4x2048x768, .f32⟩
  | 11 => ⟨S1x768, .f32⟩
  | 12 => ⟨S768, .f32⟩
  | 13 => ⟨S1x1x768, .f32⟩
  | 14 => ⟨S4x2048x768, .f32⟩
  | 15 => ⟨S4x2048x768, .f32⟩
  | 16 => ⟨S_, .i32⟩
  | 17 => ⟨S4x2048x2, .i32⟩
  | 18 => ⟨S4x2048x2, .i1⟩
  | 19 => ⟨S_, .f32⟩
  | 20 => ⟨S_, .f32⟩
  | 21 => ⟨S4x2048x2, .f32⟩
  | 22 => ⟨S4x2048x2, .f32⟩
  | 23 => ⟨S_, .f32⟩
  | 24 => ⟨S4x2048, .f32⟩
  | 25 => ⟨S4x2048x1, .f32⟩
  | 26 => ⟨S4x2048x768, .f32⟩
  | 27 => ⟨S4x2048x768, .f32⟩
  | 28 => ⟨S4x2048x768, .f32⟩
  | 29 => ⟨S1x768x768, .f32⟩
  | 30 => ⟨S768x768, .f32⟩
  | 31 => ⟨S4x2048x768, .f32⟩
  | 32 => ⟨S1x768, .f32⟩
  | 33 => ⟨S768, .f32⟩
  | 34 => ⟨S1x1x768, .f32⟩
  | 35 => ⟨S4x2048x768, .f32⟩
  | 36 => ⟨S4x2048x768, .f32⟩
  | 37 => ⟨S_, .f32⟩
  | 38 => ⟨S4x2048x768, .f32⟩
  | 39 => ⟨S4x2048x768, .f32⟩
  | 40 => ⟨S1x768x768, .f32⟩
  | 41 => ⟨S768x768, .f32⟩
  | 42 => ⟨S4x2048x768, .f32⟩
  | 43 => ⟨S1x768, .f32⟩
  | 44 => ⟨S768, .f32⟩
  | 45 => ⟨S1x1x768, .f32⟩
  | 46 => ⟨S4x2048x768, .f32⟩
  | 47 => ⟨S4x2048x768, .f32⟩
  | 48 => ⟨S_, .i32⟩
  | 49 => ⟨S4x2048x2, .i32⟩
  | 50 => ⟨S4x2048x2, .i1⟩
  | 51 => ⟨S_, .f32⟩
  | 52 => ⟨S_, .f32⟩
  | 53 => ⟨S4x2048x2, .f32⟩
  | 54 => ⟨S4x2048x2, .f32⟩
  | 55 => ⟨S_, .f32⟩
  | 56 => ⟨S4x2048, .f32⟩
  | 57 => ⟨S4x2048x1, .f32⟩
  | 58 => ⟨S4x2048x768, .f32⟩
  | 59 => ⟨S4x2048x768, .f32⟩
  | 60 => ⟨S4x2048x768, .f32⟩
  | 61 => ⟨S1x768x768, .f32⟩
  | 62 => ⟨S768x768, .f32⟩
  | 63 => ⟨S4x2048x768, .f32⟩
  | 64 => ⟨S1x768, .f32⟩
  | 65 => ⟨S768, .f32⟩
  | 66 => ⟨S1x1x768, .f32⟩
  | 67 => ⟨S4x2048x768, .f32⟩
  | 68 => ⟨S4x2048x768, .f32⟩
  | 69 => ⟨S_, .f32⟩
  | 70 => ⟨S4x2048x768, .f32⟩
  | 71 => ⟨S4x2048x768, .f32⟩
  | 72 => ⟨S1x768x768, .f32⟩
  | 73 => ⟨S768x768, .f32⟩
  | 74 => ⟨S4x2048x768, .f32⟩
  | 75 => ⟨S1x768, .f32⟩
  | 76 => ⟨S768, .f32⟩
  | 77 => ⟨S1x1x768, .f32⟩
  | 78 => ⟨S4x2048x768, .f32⟩
  | 79 => ⟨S4x2048x768, .f32⟩
  | 80 => ⟨S_, .i32⟩
  | 81 => ⟨S4x2048x2, .i32⟩
  | 82 => ⟨S4x2048x2, .i1⟩
  | 83 => ⟨S_, .f32⟩
  | 84 => ⟨S_, .f32⟩
  | 85 => ⟨S4x2048x2, .f32⟩
  | 86 => ⟨S4x2048x2, .f32⟩
  | 87 => ⟨S_, .f32⟩
  | 88 => ⟨S4x2048, .f32⟩
  | 89 => ⟨S4x2048x1, .f32⟩
  | 90 => ⟨S4x2048x768, .f32⟩
  | 91 => ⟨S4x2048x768, .f32⟩
  | 92 => ⟨S4x2048x768, .f32⟩
  | 93 => ⟨S1x768x768, .f32⟩
  | 94 => ⟨S768x768, .f32⟩
  | 95 => ⟨S4x2048x768, .f32⟩
  | 96 => ⟨S1x768, .f32⟩
  | 97 => ⟨S768, .f32⟩
  | 98 => ⟨S1x1x768, .f32⟩
  | 99 => ⟨S4x2048x768, .f32⟩
  | 100 => ⟨S4x2048x768, .f32⟩
  | 101 => ⟨S_, .f32⟩
  | 102 => ⟨S4x2048x768, .f32⟩
  | 103 => ⟨S4x2048x768, .f32⟩
  | 104 => ⟨S1x768x768, .f32⟩
  | 105 => ⟨S768x768, .f32⟩
  | 106 => ⟨S4x2048x768, .f32⟩
  | 107 => ⟨S1x768, .f32⟩
  | 108 => ⟨S768, .f32⟩
  | 109 => ⟨S1x1x768, .f32⟩
  | 110 => ⟨S4x2048x768, .f32⟩
  | 111 => ⟨S4x2048x768, .f32⟩
  | 112 => ⟨S_, .i32⟩
  | 113 => ⟨S4x2048x2, .i32⟩
  | 114 => ⟨S4x2048x2, .i1⟩
  | 115 => ⟨S_, .f32⟩
  | 116 => ⟨S_, .f32⟩
  | 117 => ⟨S4x2048x2, .f32⟩
  | 118 => ⟨S4x2048x2, .f32⟩
  | 119 => ⟨S_, .f32⟩
  | 120 => ⟨S4x2048, .f32⟩
  | 121 => ⟨S4x2048x1, .f32⟩
  | 122 => ⟨S4x2048x768, .f32⟩
  | 123 => ⟨S4x2048x768, .f32⟩
  | 124 => ⟨S4x2048x768, .f32⟩
  | 125 => ⟨S1x768x768, .f32⟩
  | 126 => ⟨S768x768, .f32⟩
  | 127 => ⟨S4x2048x768, .f32⟩
  | _ => ⟨S4x2048x768, .f32⟩

abbrev hbmTy0_2 (i : Nat) : BufTy := match i % 128 with
  | 0 => ⟨S1x768, .f32⟩
  | 1 => ⟨S768, .f32⟩
  | 2 => ⟨S1x1x768, .f32⟩
  | 3 => ⟨S4x2048x768, .f32⟩
  | 4 => ⟨S4x2048x768, .f32⟩
  | 5 => ⟨S_, .f32⟩
  | 6 => ⟨S4x2048x768, .f32⟩
  | 7 => ⟨S4x2048x768, .f32⟩
  | 8 => ⟨S1x768x768, .f32⟩
  | 9 => ⟨S768x768, .f32⟩
  | 10 => ⟨S4x2048x768, .f32⟩
  | 11 => ⟨S1x768, .f32⟩
  | 12 => ⟨S768, .f32⟩
  | 13 => ⟨S1x1x768, .f32⟩
  | 14 => ⟨S4x2048x768, .f32⟩
  | 15 => ⟨S4x2048x768, .f32⟩
  | 16 => ⟨S_, .i32⟩
  | 17 => ⟨S4x2048x2, .i32⟩
  | 18 => ⟨S4x2048x2, .i1⟩
  | 19 => ⟨S_, .f32⟩
  | 20 => ⟨S_, .f32⟩
  | 21 => ⟨S4x2048x2, .f32⟩
  | 22 => ⟨S4x2048x2, .f32⟩
  | 23 => ⟨S_, .f32⟩
  | 24 => ⟨S4x2048, .f32⟩
  | 25 => ⟨S4x2048x1, .f32⟩
  | 26 => ⟨S4x2048x768, .f32⟩
  | 27 => ⟨S4x2048x768, .f32⟩
  | 28 => ⟨S4x2048x768, .f32⟩
  | _ => ⟨S4x2048x768, .f32⟩

abbrev hbmTy (i : Nat) : BufTy := match i / 128 with
  | 0 => hbmTy0_0 i
  | 1 => hbmTy0_1 i
  | 2 => hbmTy0_2 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_values : Ref sig .tc := ⟨.hbm, 11, rfl⟩
abbrev main_indices : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call2_cst : Ref sig .tc := ⟨.hbm, 69, rfl⟩
abbrev main_call2_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_5 : Ref sig .tc := ⟨.hbm, 80, rfl⟩
abbrev main_v58 : Ref sig .tc := ⟨.hbm, 81, rfl⟩
abbrev main_v59 : Ref sig .tc := ⟨.hbm, 82, rfl⟩
abbrev main_cst_6 : Ref sig .tc := ⟨.hbm, 83, rfl⟩
abbrev main_call3_v0 : Ref sig .tc := ⟨.hbm, 84, rfl⟩
abbrev main_call3_v1 : Ref sig .tc := ⟨.hbm, 85, rfl⟩
abbrev main_v60 : Ref sig .tc := ⟨.hbm, 86, rfl⟩
abbrev main_cst_7 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call4_cst : Ref sig .tc := ⟨.hbm, 101, rfl⟩
abbrev main_call4_v0 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_8 : Ref sig .tc := ⟨.hbm, 112, rfl⟩
abbrev main_v83 : Ref sig .tc := ⟨.hbm, 113, rfl⟩
abbrev main_v84 : Ref sig .tc := ⟨.hbm, 114, rfl⟩
abbrev main_cst_9 : Ref sig .tc := ⟨.hbm, 115, rfl⟩
abbrev main_call5_v0 : Ref sig .tc := ⟨.hbm, 116, rfl⟩
abbrev main_call5_v1 : Ref sig .tc := ⟨.hbm, 117, rfl⟩
abbrev main_v85 : Ref sig .tc := ⟨.hbm, 118, rfl⟩
abbrev main_cst_10 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call6_cst : Ref sig .tc := ⟨.hbm, 133, rfl⟩
abbrev main_call6_v0 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_11 : Ref sig .tc := ⟨.hbm, 144, rfl⟩
abbrev main_v108 : Ref sig .tc := ⟨.hbm, 145, rfl⟩
abbrev main_v109 : Ref sig .tc := ⟨.hbm, 146, rfl⟩
abbrev main_cst_12 : Ref sig .tc := ⟨.hbm, 147, rfl⟩
abbrev main_call7_v0 : Ref sig .tc := ⟨.hbm, 148, rfl⟩
abbrev main_call7_v1 : Ref sig .tc := ⟨.hbm, 149, rfl⟩
abbrev main_v110 : Ref sig .tc := ⟨.hbm, 150, rfl⟩
abbrev main_cst_13 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call8_cst : Ref sig .tc := ⟨.hbm, 165, rfl⟩
abbrev main_call8_v0 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_c_14 : Ref sig .tc := ⟨.hbm, 176, rfl⟩
abbrev main_v133 : Ref sig .tc := ⟨.hbm, 177, rfl⟩
abbrev main_v134 : Ref sig .tc := ⟨.hbm, 178, rfl⟩
abbrev main_cst_15 : Ref sig .tc := ⟨.hbm, 179, rfl⟩
abbrev main_call9_v0 : Ref sig .tc := ⟨.hbm, 180, rfl⟩
abbrev main_call9_v1 : Ref sig .tc := ⟨.hbm, 181, rfl⟩
abbrev main_v135 : Ref sig .tc := ⟨.hbm, 182, rfl⟩
abbrev main_cst_16 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_call10_cst : Ref sig .tc := ⟨.hbm, 197, rfl⟩
abbrev main_call10_v0 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_c_17 : Ref sig .tc := ⟨.hbm, 208, rfl⟩
abbrev main_v158 : Ref sig .tc := ⟨.hbm, 209, rfl⟩
abbrev main_v159 : Ref sig .tc := ⟨.hbm, 210, rfl⟩
abbrev main_cst_18 : Ref sig .tc := ⟨.hbm, 211, rfl⟩
abbrev main_call11_v0 : Ref sig .tc := ⟨.hbm, 212, rfl⟩
abbrev main_call11_v1 : Ref sig .tc := ⟨.hbm, 213, rfl⟩
abbrev main_v160 : Ref sig .tc := ⟨.hbm, 214, rfl⟩
abbrev main_cst_19 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_call12_cst : Ref sig .tc := ⟨.hbm, 229, rfl⟩
abbrev main_call12_v0 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_c_20 : Ref sig .tc := ⟨.hbm, 240, rfl⟩
abbrev main_v183 : Ref sig .tc := ⟨.hbm, 241, rfl⟩
abbrev main_v184 : Ref sig .tc := ⟨.hbm, 242, rfl⟩
abbrev main_cst_21 : Ref sig .tc := ⟨.hbm, 243, rfl⟩
abbrev main_call13_v0 : Ref sig .tc := ⟨.hbm, 244, rfl⟩
abbrev main_call13_v1 : Ref sig .tc := ⟨.hbm, 245, rfl⟩
abbrev main_v185 : Ref sig .tc := ⟨.hbm, 246, rfl⟩
abbrev main_cst_22 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_call14_cst : Ref sig .tc := ⟨.hbm, 261, rfl⟩
abbrev main_call14_v0 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_c_23 : Ref sig .tc := ⟨.hbm, 272, rfl⟩
abbrev main_v208 : Ref sig .tc := ⟨.hbm, 273, rfl⟩
abbrev main_v209 : Ref sig .tc := ⟨.hbm, 274, rfl⟩
abbrev main_cst_24 : Ref sig .tc := ⟨.hbm, 275, rfl⟩
abbrev main_call15_v0 : Ref sig .tc := ⟨.hbm, 276, rfl⟩
abbrev main_call15_v1 : Ref sig .tc := ⟨.hbm, 277, rfl⟩
abbrev main_v210 : Ref sig .tc := ⟨.hbm, 278, rfl⟩
abbrev main_cst_25 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩

abbrev nD : Nat := 1
abbrev τ : Topo := Topo.v7x

variable {F : FTy → Type} [FloatOps F]
-- ==== Proof.Routing.lean ====
/-
  THE MATHEMATICS OF THE LAYER, with no program in sight: a router scores eight experts for one token, the two best
  (the lower number wins a tie) answer, and the answer is their weighted sum.

  * `Leads f S a`: `a` is the best of the experts `S` by the scores `f`; `first f` and `second f` are the best and the runner-up.
  * `weight f e`: what expert `e`'s answer is multiplied by: the softmax over the two best scores, and zero for the others.
  * `expert`: one expert's answer; `moeRow`: the weighted sum of the eight.

  The lemmas below are the ways the two programs come by these: a running maximum (`fold_max_eq`), the least number among
  those that reach it (`fold_min_eq`), the row with its best entry struck out (`struck_leads`), and the two forms of the
  weights (`one_sub_topWeight`, `softmax_first`, `softmax_second`).
-/
module

public import Idealize.ShloMosaic.PureOps.Ideal.Laws
public import Mathlib.Data.Finset.Max
public import Mathlib.Data.Finset.Fold
public import Mathlib.Data.EReal.Basic
public import Mathlib.Data.EReal.Operations

@[expose] public section

noncomputable section

namespace Cert.Moe

open Idealize.ShloMosaic

/-! ## The best and the runner-up -/

/-- Expert `a` is the best of `S` by the scores `f`: of the others in `S`, each scores less, or the same with a higher number. -/
structure Leads (f : Fin 8 → EReal) (S : Finset (Fin 8)) (a : Fin 8) : Prop where
  mem : a ∈ S
  top : ∀ k ∈ S, f k < f a ∨ (f k = f a ∧ a ≤ k)

variable {f g : Fin 8 → EReal} {S : Finset (Fin 8)} {a b : Fin 8}

/-- The best of `S` scores at least as much as each of `S`. -/
theorem Leads.le (h : Leads f S a) {k : Fin 8} (hk : k ∈ S) : f k ≤ f a :=
  (h.top k hk).elim le_of_lt fun e => e.1.le

/-- There is only one best. -/
theorem Leads.unique (h : Leads f S a) (h' : Leads f S b) : a = b := by
  rcases h.top b h'.mem with hb | ⟨eb, lb⟩
  · exact absurd hb (not_lt.mpr (h'.le h.mem))
  · rcases h'.top a h.mem with ha | ⟨_, la⟩
    · exact absurd ha (not_lt.mpr eb.le)
    · exact le_antisymm lb la

/-- A nonempty set of experts has a best one. -/
theorem exists_leads (f : Fin 8 → EReal) (S : Finset (Fin 8)) (hS : S.Nonempty) : ∃ a, Leads f S a := by
  obtain ⟨m, hm, hmax⟩ := S.exists_max_image f hS
  have hT : (S.filter fun k => f k = f m).Nonempty := ⟨m, Finset.mem_filter.mpr ⟨hm, rfl⟩⟩
  have ha := Finset.mem_filter.mp (Finset.min'_mem _ hT)
  refine ⟨(S.filter fun k => f k = f m).min' hT, ha.1, fun k hk => ?_⟩
  rw [ha.2]
  rcases lt_or_eq_of_le (hmax k hk) with h | h
  · exact Or.inl h
  · exact Or.inr ⟨h, Finset.min'_le _ _ (Finset.mem_filter.mpr ⟨hk, h⟩)⟩

/-- The best expert. -/
def first (f : Fin 8 → EReal) : Fin 8 := (exists_leads f Finset.univ Finset.univ_nonempty).choose

/-- The best expert is the best of all. -/
theorem first_leads (f : Fin 8 → EReal) : Leads f Finset.univ (first f) :=
  (exists_leads f Finset.univ Finset.univ_nonempty).choose_spec

/-- With one expert out of the eight removed, some are left. -/
theorem others_nonempty (a : Fin 8) : (Finset.univ.erase a).Nonempty :=
  Finset.card_pos.mp (by rw [Finset.card_erase_of_mem (Finset.mem_univ a)]; decide)

/-- The runner-up. -/
def second (f : Fin 8 → EReal) : Fin 8 := (exists_leads f (Finset.univ.erase (first f)) (others_nonempty _)).choose

/-- The runner-up is the best of the others. -/
theorem second_leads (f : Fin 8 → EReal) : Leads f (Finset.univ.erase (first f)) (second f) :=
  (exists_leads f (Finset.univ.erase (first f)) (others_nonempty _)).choose_spec

/-- The runner-up is not the best. -/
theorem second_ne_first (f : Fin 8 → EReal) : second f ≠ first f := (Finset.mem_erase.mp (second_leads f).mem).1

/-! ## How a maximum and a least number find the best -/

/-- The running maximum over the eight, started at minus infinity, is the best score. -/
theorem fold_max_eq (h : Leads g Finset.univ a) : (Finset.univ : Finset (Fin 8)).fold max ⊥ g = g a :=
  le_antisymm (Finset.fold_max_le _ |>.mpr ⟨bot_le, fun k hk => h.le hk⟩)
    (Finset.le_fold_max _ |>.mpr (Or.inr ⟨a, Finset.mem_univ a, le_rfl⟩))

/-- The signed least of two words is, as integers, the least. -/
theorem toInt_minsi (x y : BitVec 32) : (IKind.minsi.op x y).toInt = min x.toInt y.toInt := by
  show (IntOp.minsi x y).toInt = _
  unfold IntOp.minsi
  by_cases h : x.toInt < y.toInt
  · rw [if_pos (by simpa [BitVec.slt] using h), min_eq_left h.le]
  · rw [if_neg (by simpa [BitVec.slt] using h), min_eq_right (not_lt.mp h)]

/-- The word of an expert's number, read signed, is the number. -/
theorem toInt_num (k : Fin 8) : (BitVec.ofNat 32 k.val).toInt = k.val := by
  revert k; decide

/-- The least of the words "the expert's number where the score is the best one, and eight elsewhere" is the best's number. -/
theorem fold_min_eq (h : Leads g Finset.univ a) :
    (Finset.univ : Finset (Fin 8)).fold IKind.minsi.op 2147483647#32
      (fun k => if g k = g a then BitVec.ofNat 32 k.val else 8#32) = BitVec.ofNat 32 a.val := by
  apply BitVec.eq_of_toInt_eq
  have hh := Finset.fold_hom (op := IKind.minsi.op) (op' := (min : ℤ → ℤ → ℤ)) (m := BitVec.toInt) (b := 2147483647#32)
    (s := (Finset.univ : Finset (Fin 8))) (f := fun k => if g k = g a then BitVec.ofNat 32 k.val else 8#32) toInt_minsi
  rw [← hh, toInt_num]
  apply le_antisymm
  · refine (Finset.fold_min_le _).mpr (Or.inr ⟨a, Finset.mem_univ a, ?_⟩)
    rw [if_pos rfl, toInt_num]
  · refine (Finset.le_fold_min _).mpr ⟨?_, fun k _ => ?_⟩
    · have : (a.val : ℤ) < 8 := by exact_mod_cast a.isLt
      have e : (2147483647#32).toInt = 2147483647 := by decide
      rw [e]; omega
    · by_cases hk : g k = g a
      · rw [if_pos hk, toInt_num]
        rcases h.top k (Finset.mem_univ k) with hl | ⟨_, hl⟩
        · exact absurd hk hl.ne
        · exact_mod_cast hl
      · rw [if_neg hk]
        have : (a.val : ℤ) < 8 := by exact_mod_cast a.isLt
        have e : (8#32).toInt = 8 := by decide
        rw [e]; omega

/-- The row of scores with the best one struck out (set to minus infinity). -/
def struck (f : Fin 8 → EReal) (k : Fin 8) : EReal := if k = first f then ⊥ else f k

/-- Where the runner-up's score is above minus infinity it is the best of the struck row, -/
theorem struck_leads (hf : f (second f) ≠ ⊥) : Leads (struck f) Finset.univ (second f) := by
  have hs : struck f (second f) = f (second f) := if_neg (second_ne_first f)
  refine ⟨Finset.mem_univ _, fun k _ => ?_⟩
  rw [hs]
  by_cases hk : k = first f
  · exact Or.inl (by rw [struck, if_pos hk]; exact bot_lt_iff_ne_bot.mpr hf)
  · rw [struck, if_neg hk]
    exact (second_leads f).top k (Finset.mem_erase.mpr ⟨hk, Finset.mem_univ k⟩)

/-- and its struck score is its score. -/
theorem struck_second (f : Fin 8 → EReal) : struck f (second f) = f (second f) := if_neg (second_ne_first f)

/-! ## The weights -/

/-- The best expert's share, the softmax of the two best scores `u` and `v`: one over one plus the exponential of their difference. -/
def topWeight (u v : EReal) : EReal := Ideal.div 1 (1 + Ideal.exp (v - u))

/-- The runner-up's share: the exponential of the difference over the same denominator. -/
def nextWeight (u v : EReal) : EReal := Ideal.div (Ideal.exp (v - u)) (1 + Ideal.exp (v - u))

/-- What expert `e`'s answer is multiplied by. -/
def weight (f : Fin 8 → EReal) (e : Fin 8) : EReal :=
  (if first f = e then topWeight (f (first f)) (f (second f)) else 0)
    + (if second f = e then nextWeight (f (first f)) (f (second f)) else 0)

/-- The denominator, for real scores, is a positive real. -/
theorem denominator (u v : ℝ) : (1 : EReal) + Ideal.exp ((v : EReal) - (u : EReal)) = ((1 + Real.exp (v - u) : ℝ) : EReal) := by
  rw [← EReal.coe_sub, Ideal.exp_coe, EReal.coe_add, EReal.coe_one]

/-- For real scores the two shares add to one: the runner-up's is one less the best's. -/
theorem one_sub_topWeight (u v : ℝ) : 1 - topWeight u v = nextWeight u v := by
  have hp : (1 + Real.exp (v - u)) ≠ 0 := by positivity
  unfold topWeight nextWeight
  rw [denominator, Ideal.div_coe hp, Ideal.div_coe hp, ← EReal.coe_sub, Ideal.exp_coe, ← EReal.coe_one, ← EReal.coe_mul,
    ← EReal.coe_mul, ← EReal.coe_sub, EReal.coe_eq_coe_iff]
  field_simp
  ring

/-- The shift a softmax subtracts: the larger of the two scores, and minus infinity twice over. -/
theorem softmax_shift {u v : EReal} (h : v ≤ u) :
    max ⊥ ((Finset.univ : Finset (Fin 2)).fold max ⊥ ![u, v]) = u := by
  rw [max_eq_right bot_le]
  exact le_antisymm (Finset.fold_max_le _ |>.mpr ⟨bot_le, fun k _ => by fin_cases k <;> simp [h]⟩)
    (Finset.le_fold_max _ |>.mpr (Or.inr ⟨0, Finset.mem_univ _, le_rfl⟩))

/-- The sum a softmax divides by. -/
theorem softmax_sum (u : ℝ) (v : EReal) :
    (0 : EReal) + ∑ j : Fin 2, Ideal.exp ((![(u : EReal), v] : Fin 2 → EReal) j - u) = 1 + Ideal.exp (v - u) := by
  rw [Fin.sum_univ_two, zero_add]
  show Ideal.exp ((u : EReal) - u) + Ideal.exp (v - u) = _
  rw [← EReal.coe_sub, Ideal.exp_coe, sub_self, Real.exp_zero, EReal.coe_one]

/-- The softmax's first entry is the best's share. -/
theorem softmax_first (u : ℝ) (v : EReal) :
    Ideal.div (Ideal.exp ((u : EReal) - u)) (1 + Ideal.exp (v - u)) = topWeight u v := by
  rw [← EReal.coe_sub, Ideal.exp_coe, sub_self, Real.exp_zero, EReal.coe_one]; rfl

/-- The share of each of the two, by its place. -/
def share (f : Fin 8 → EReal) (j : Fin 2) : EReal :=
  ![topWeight (f (first f)) (f (second f)), nextWeight (f (first f)) (f (second f))] j

/-- The expert in each of the two places. -/
def place (f : Fin 8 → EReal) (j : Fin 2) : Fin 8 := ![first f, second f] j

/-- The sum, over the two places, of the share where the place is expert `e`'s, is the weight of `e`. -/
theorem weight_eq_sum (f : Fin 8 → EReal) (e : Fin 8) :
    (0 : EReal) + ∑ j : Fin 2, (if place f j = e then share f j else 0) = weight f e := by
  rw [Fin.sum_univ_two, zero_add]; rfl

/-! ## The experts and their sum -/

/-- A router's score of one expert: the token against the expert's row, and the expert's bias. -/
def score (x : Fin 768 → EReal) (w : Fin 8 → Fin 768 → EReal) (c : Fin 8 → EReal) (e : Fin 8) : EReal :=
  (∑ k, x k * w e k) + c e

/-- One expert's answer: a linear map, the positive part, a second linear map. -/
def expert (x : Fin 768 → EReal) (W : Fin 768 → Fin 768 → EReal) (b : Fin 768 → EReal) (W' : Fin 768 → Fin 768 → EReal)
    (b' : Fin 768 → EReal) (o : Fin 768) : EReal :=
  (∑ h, max ((∑ k, x k * W h k) + b h) 0 * W' o h) + b' o

/-- The layer's answer for one token: the eight experts' answers, each times its weight, added up in order. -/
def moeRow (x : Fin 768 → EReal) (W : Fin 8 → Fin 768 → Fin 768 → EReal) (b : Fin 8 → Fin 768 → EReal)
    (W' : Fin 8 → Fin 768 → Fin 768 → EReal) (b' : Fin 8 → Fin 768 → EReal) (f : Fin 8 → EReal) (o : Fin 768) : EReal :=
  ∑ e, expert x (W e) (b e) (W' e) (b' e) o * weight f e

/-- A real-valued sum of products of reals, plus a real, is a real: the scores of real tokens and real router rows. -/
theorem score_real {x : Fin 768 → EReal} {w : Fin 8 → Fin 768 → EReal} {c : Fin 8 → EReal} (hx : ∀ k, ∃ r : ℝ, x k = r)
    (hw : ∀ e k, ∃ r : ℝ, w e k = r) (hc : ∀ e, ∃ r : ℝ, c e = r) (e : Fin 8) : ∃ r : ℝ, score x w c e = r := by
  choose rx hx using hx
  choose rw' hw using hw
  choose rc hc using hc
  refine ⟨(∑ k, rx k * rw' e k) + rc e, ?_⟩
  unfold score
  rw [EReal.coe_add, hc]
  congr 1
  have : ∀ s : Finset (Fin 768), ∑ k ∈ s, x k * w e k = ((∑ k ∈ s, rx k * rw' e k : ℝ) : EReal) := by
    intro s
    induction s using Finset.induction_on with
    | empty => simp
    | insert k s hk ih => rw [Finset.sum_insert hk, Finset.sum_insert hk, ih, hx, hw, EReal.coe_add, EReal.coe_mul]
  exact this _

/-- An extended real whose absolute value is below infinity is a real. -/
theorem real_of_abs_lt_top {y : EReal} (h : max y (-y) < ⊤) : ∃ r : ℝ, y = r := by
  induction y using EReal.rec with
  | bot => simp at h
  | top => simp at h
  | coe r => exact ⟨r, rfl⟩

/-! ## Words and constants -/

/-- A choice on "this word is that expert's number", both words being experts' numbers, is the choice on the experts. -/
theorem select_num {α : Type} (a e : Fin 8) (u v : α) :
    Scalar.select (IntOp.cmpi .eq (BitVec.ofNat 32 a.val) (BitVec.ofNat 32 e.val)) u v = if a = e then u else v := by
  by_cases h : a = e
  · subst h; rw [if_pos rfl]; simp [IntOp.cmpi, Scalar.select]
  · have hne : BitVec.ofNat 32 a.val ≠ BitVec.ofNat 32 e.val := fun hh => h (by
      have := congrArg BitVec.toInt hh
      rw [toInt_num, toInt_num] at this
      exact Fin.ext (by exact_mod_cast this))
    have hb : (BitVec.ofNat 32 a.val == BitVec.ofNat 32 e.val) = false := beq_eq_false_iff_ne.mpr hne
    rw [if_neg h]; simp only [IntOp.cmpi, Scalar.select, hb]; rfl

/-- A choice on "these two scores are equal" is that choice. -/
theorem select_oeq {α : Type} (x y : EReal) (u v : α) :
    Scalar.select (FloatOps.cmpf (F := Ideal) (φ := .f32) .oeq x y) u v = if x = y then u else v := by
  rw [Ideal.cmpf_def]
  by_cases h : x = y <;> simp [Ideal.cmp, Scalar.select, h]

/-- The 32-bit pattern of minus infinity. -/
theorem ofBits_neg_inf : Ideal.ofBits .f32 0xFF800000#32 = (⊥ : EReal) := by simp [Ideal.ofBits, Ideal.ieee]

/-- The 32-bit pattern of plus infinity. -/
theorem ofBits_inf : Ideal.ofBits .f32 0x7F800000#32 = (⊤ : EReal) := by simp [Ideal.ofBits, Ideal.ieee]

/-- The 32-bit pattern of one. -/
theorem ofBits_one : Ideal.ofBits .f32 0x3F800000#32 = (1 : EReal) := by
  simp [Ideal.ofBits, Ideal.ieee, -EReal.coe_mul]; norm_num

end Cert.Moe

end
-- ==== Proof.Products.lean ====
/-
  WHERE A MATRIX PRODUCT READS ITS OPERANDS on an axis it does not sum over: at the axis of the result that stands for it.
  The axes summed over are read by the library's single-axis lemmas; these two are for the others.
-/
module

public import Idealize.ShloMosaic.Lib.ValueIdx

@[expose] public section

namespace Cert.Moe

open Idealize.ShloMosaic

variable {sl sr so : Shape} (d : DotDims sl sr so)

/-- The left operand, on an axis `a` that is neither summed nor shared, is read where the result's axis for it says. -/
theorem lhs_free (i : so.Idx) (q : d.contr.Idx) (a : Fin sl.rank) (hb : ¬a ∈ d.lhsBatch) (hn : a ∈ d.lhsNonContracting)
    (k : Fin so.rank) (hk : k.val = d.lhsBatch.length + d.lhsNonContracting.idxOf a) :
    (d.lhsIdx i q a).val = (i k).val := by
  unfold DotDims.lhsIdx
  rw [dif_neg hb, dif_pos hn, Fin.val_cast]
  exact congrArg (fun p : Fin so.rank => (i p).val) (Fin.ext hk.symm)

/-- The right operand, on an axis `a` that is neither summed nor shared, is read where the result's axis for it says. -/
theorem rhs_free (i : so.Idx) (q : d.contr.Idx) (a : Fin sr.rank) (hb : ¬a ∈ d.rhsBatch) (hn : a ∈ d.rhsNonContracting)
    (k : Fin so.rank) (hk : k.val = d.lhsBatch.length + d.lhsNonContracting.length + d.rhsNonContracting.idxOf a) :
    (d.rhsIdx i q a).val = (i k).val := by
  unfold DotDims.rhsIdx
  rw [dif_neg hb, dif_pos hn, Fin.val_cast]
  exact congrArg (fun p : Fin so.rank => (i p).val) (Fin.ext hk.symm)

end Cert.Moe
-- ==== Proof.KernelRouting.lean ====
/-
  THE ROUTING IN ONE BLOCK OF THE KERNEL: for each of the 256 rows loaded at a grid point, the two maxima, the two expert
  numbers and the two weights the body computes are those of the row's scores (Routing.lean). Under it, the body's layout
  operations, row reductions and matrix products read at an index.
-/
module

public import proofs.«01_k».proof.Proof.Routing
public import proofs.«01_k».proof.Proof.Products
public import proofs.«01_k».proof.Proof.Gen.KernelIdeal.Frame
public import Idealize.ShloMosaic.Lib.ValueLayout
public import Idealize.ShloMosaic.Lib.ValueIdx
public import Idealize.ShloMosaic.Lib.Pipeline.Value

@[expose] public section

noncomputable section

namespace Cert.KernelIdeal.Block

open Cert.KernelIdeal Cert.KernelIdeal.Gen Cert.Moe
open Idealize.ShloMosaic Idealize.ShloMosaic.ValueIdx

/-! ## Columns, rows and their reductions -/

/-- A column of 256 entries read at its row. -/
theorem column_apply {α : Type} (v : S256.Idx → α) (r : Fin 256) :
    shapeCast S256x1 v shapeCasts_S256_S256x1 (ix2 r (0 : Fin 1)) = v (ix1 r) :=
  shapeCast_apply v _ _ _ (by
    rw [Shape.rowMajor_val_two, Shape.rowMajor_val_one]
    show r.val = r.val * 1 + 0
    omega)

/-- A column spread over eight lanes reads the column. -/
theorem spread8_apply {α : Type} (v : S256x1.Idx → α) (r : Fin 256) (k : Fin 8) :
    broadcastTo S256x8 v broadcasts_S256x1_S256x8 (ix2 r k) = v (ix2 r (0 : Fin 1)) :=
  broadcastTo_apply v _ _ _ fun a => match a with
    | ⟨0, _⟩ => rfl
    | ⟨1, _⟩ => rfl

/-- A column spread over 768 lanes reads the column. -/
theorem spread768_apply {α : Type} (v : S256x1.Idx → α) (r : Fin 256) (o : Fin 768) :
    broadcastTo S256x768 v broadcasts_S256x1_S256x768 (ix2 r o) = v (ix2 r (0 : Fin 1)) :=
  broadcastTo_apply v _ _ _ fun a => match a with
    | ⟨0, _⟩ => rfl
    | ⟨1, _⟩ => rfl

/-- The index a row reduction puts back its lane into. -/
theorem lift_eq (r : Fin 256) (k : Fin 8) : reduces_S256x8_S256.lift (ix1 r) k = ix2 r k :=
  funext fun a => Fin.ext (match a with
    | ⟨0, _⟩ => rfl
    | ⟨1, _⟩ => rfl)

/-- A row's maximum is the running maximum over its eight lanes. -/
theorem rowMax_apply (v : FVec Ideal S256x8 .f32) (r : Fin 256) (hφ : FKind.Formats .f32)
    (hacc : (0xFF800000#32 : BitVec 32) = FKind.maximumf.neutral .f32 hφ) :
    multiReduction .maximumf [1] S256 v 0xFF800000#32 reduces_S256x8_S256 hφ hacc (ix1 r)
      = (Finset.univ : Finset (Fin 8)).fold max ⊥ fun k => v (ix2 r k) := by
  rw [Ideal.multiReduction_maximumf_single]
  show (Finset.univ : Finset (Fin 8)).fold max (Ideal.ofBits .f32 0xFF800000#32) (v ∘ reduces_S256x8_S256.lift (ix1 r)) = _
  rw [ofBits_neg_inf]
  exact congrArg (fun g => (Finset.univ : Finset (Fin 8)).fold max ⊥ g) (funext fun k => congrArg v (lift_eq r k))

/-- A row's least word is the running signed minimum over its eight lanes. -/
theorem rowMin_apply (v : IVec S256x8 32) (r : Fin 256) (hacc : (2147483647#32 : BitVec 32) = IKind.minsi.neutral) :
    multiReductionI .minsi [1] S256 v 2147483647#32 reduces_S256x8_S256 hacc (ix1 r)
      = (Finset.univ : Finset (Fin 8)).fold IKind.minsi.op 2147483647#32 fun k => v (ix2 r k) := by
  refine (multiReductionI_eq_fold .minsi v _ reduces_S256x8_S256 hacc (ix1 r)).trans
    ((reduces_S256x8_S256.fold_filter_drop_single IKind.minsi.op _ v (ix1 r)).trans ?_)
  exact congrArg (fun g => (Finset.univ : Finset (Fin 8)).fold IKind.minsi.op 2147483647#32 g)
    (funext fun k => congrArg v (lift_eq r k))

/-! ## The matrix products -/

/-- The router's product of a block of rows with the router's rows. -/
theorem dot8_apply (x : FVec Ideal S256x768 .f32) (w : FVec Ideal S8x768 .f32) (r : Fin 256) (e : Fin 8) :
    matmul dot_S256x768_S8x768_S256x8_1_1_0_0_n_n none x w (constant S256x8 .f32 0x00000000#32) (ix2 r e)
      = ∑ k : Fin 768, x (ix2 r k) * w (ix2 e k) := by
  simp only [matmul]
  rw [Ideal.matmul_constant_zero_apply, ← Equiv.sum_comp (contrEquiv1 dot_S256x768_S8x768_S256x8_1_1_0_0_n_n 768 rfl rfl).symm]
  refine Finset.sum_congr rfl fun k _ => ?_
  have hk := contrEquiv1_symm_val dot_S256x768_S8x768_S256x8_1_1_0_0_n_n 768 rfl rfl k
  congr 1
  · refine congrArg x (funext fun a => Fin.ext ?_)
    match a with
    | ⟨0, _⟩ => exact lhs_free dot_S256x768_S8x768_S256x8_1_1_0_0_n_n _ _ 0 (by decide) (by decide) 0 rfl
    | ⟨1, _⟩ => exact (DotDims.lhsIdx_val_of_single _ rfl _ _).trans hk
  · refine congrArg w (funext fun a => Fin.ext ?_)
    match a with
    | ⟨0, _⟩ => exact rhs_free dot_S256x768_S8x768_S256x8_1_1_0_0_n_n _ _ 0 (by decide) (by decide) 1 rfl
    | ⟨1, _⟩ => exact (DotDims.rhsIdx_val_of_single _ rfl _ _).trans hk

/-- An expert's product of a block of rows with its matrix's rows. -/
theorem dot768_apply (x : FVec Ideal S256x768 .f32) (w : FVec Ideal S768x768 .f32) (r : Fin 256) (o : Fin 768) :
    matmul dot_S256x768_S768x768_S256x768_1_1_0_0_n_n none x w (constant S256x768 .f32 0x00000000#32) (ix2 r o)
      = ∑ k : Fin 768, x (ix2 r k) * w (ix2 o k) := by
  simp only [matmul]
  rw [Ideal.matmul_constant_zero_apply, ← Equiv.sum_comp (contrEquiv1 dot_S256x768_S768x768_S256x768_1_1_0_0_n_n 768 rfl rfl).symm]
  refine Finset.sum_congr rfl fun k _ => ?_
  have hk := contrEquiv1_symm_val dot_S256x768_S768x768_S256x768_1_1_0_0_n_n 768 rfl rfl k
  congr 1
  · refine congrArg x (funext fun a => Fin.ext ?_)
    match a with
    | ⟨0, _⟩ => exact lhs_free dot_S256x768_S768x768_S256x768_1_1_0_0_n_n _ _ 0 (by decide) (by decide) 0 rfl
    | ⟨1, _⟩ => exact (DotDims.lhsIdx_val_of_single _ rfl _ _).trans hk
  · refine congrArg w (funext fun a => Fin.ext ?_)
    match a with
    | ⟨0, _⟩ => exact rhs_free dot_S256x768_S768x768_S256x768_1_1_0_0_n_n _ _ 0 (by decide) (by decide) 1 rfl
    | ⟨1, _⟩ => exact (DotDims.rhsIdx_val_of_single _ rfl _ _).trans hk

/-! ## The routing of one row -/

section routing

variable (x : Vec Ideal S256x768 .f32) (w : Vec Ideal S8x768 .f32) (c : Vec Ideal S1x8 .f32) (r : Fin 256)

/-- The scores of row `r` of the block. -/
def scores : Fin 8 → EReal := score (fun k => x (ix2 r k)) (fun e k => w (ix2 e k)) (fun e => c (ix2 (0 : Fin 1) e))

/-- The body's scores. -/
theorem scores_apply (e : Fin 8) : k0_pay3 (F := Ideal) x w c (ix2 r e) = scores x w c r e := by
  unfold k0_pay3 k0_pay2
  rw [addf_apply, shapeCast_self, shapeCast_self, dot8_apply, broadcastTo_1b_ab_apply]
  rfl

/-- The body's first maximum is the best score, -/
theorem best_apply : k0_pay4 (F := Ideal) x w c (ix2 r (0 : Fin 1)) = scores x w c r (first (scores x w c r)) := by
  unfold k0_pay4
  refine ((column_apply _ r).trans (rowMax_apply _ r _ _)).trans ?_
  simp only [scores_apply]
  exact fold_max_eq (first_leads _)

/-- the number it finds for it is the best expert's, -/
theorem bestNum_apply : k0_pay5 (F := Ideal) x w c (ix2 r (0 : Fin 1)) = BitVec.ofNat 32 (first (scores x w c r)).val := by
  unfold k0_pay5
  refine ((column_apply _ r).trans (rowMin_apply _ r _)).trans ?_
  simp only [select_apply, cmpf_apply, scores_apply, spread8_apply, best_apply, broadcast_apply, iota_single_apply, select_oeq]
  exact fold_min_eq (first_leads _)

/-- and the row with that lane set to minus infinity is the struck row. -/
theorem struck_apply (k : Fin 8) : k0_pay6 (F := Ideal) x w c (ix2 r k) = struck (scores x w c r) k := by
  unfold k0_pay6
  rw [select_apply, scores_apply, broadcast_apply]
  show Scalar.select (IntOp.cmpi .eq (iota .tc S256x8 32 [1] iota_S256x8_d1_w32 (ix2 r k))
    (broadcastTo S256x8 (k0_pay5 x w c) broadcasts_S256x1_S256x8 (ix2 r k))) (Ideal.ofBits .f32 0xFF800000#32) _ = _
  rw [spread8_apply, bestNum_apply, iota_single_apply, ofBits_neg_inf]
  exact select_num k _ _ _

variable (hf : ∀ e, ∃ q : ℝ, scores x w c r e = q)
include hf

/-- A real score is above minus infinity. -/
theorem second_ne_bot : scores x w c r (second (scores x w c r)) ≠ ⊥ := by
  obtain ⟨q, hq⟩ := hf (second (scores x w c r))
  rw [hq]; exact EReal.coe_ne_bot q

/-- The body's second maximum is the runner-up's score, -/
theorem next_apply : k0_pay7 (F := Ideal) x w c (ix2 r (0 : Fin 1)) = scores x w c r (second (scores x w c r)) := by
  unfold k0_pay7
  refine ((column_apply _ r).trans (rowMax_apply _ r _ _)).trans ?_
  simp only [struck_apply]
  exact (fold_max_eq (struck_leads (second_ne_bot x w c r hf))).trans (struck_second _)

/-- and the number it finds for it is the runner-up's. -/
theorem nextNum_apply : k0_pay8 (F := Ideal) x w c (ix2 r (0 : Fin 1)) = BitVec.ofNat 32 (second (scores x w c r)).val := by
  unfold k0_pay8
  refine ((column_apply _ r).trans (rowMin_apply _ r _)).trans ?_
  simp only [select_apply, cmpf_apply, struck_apply, spread8_apply, next_apply x w c r hf, broadcast_apply, iota_single_apply,
    select_oeq]
  rw [← struck_second (scores x w c r)]
  exact fold_min_eq (struck_leads (second_ne_bot x w c r hf))

/-- The body's first weight is the best expert's share, -/
theorem topWeight_apply : k0_pay9 (F := Ideal) x w c (ix2 r (0 : Fin 1))
    = topWeight (scores x w c r (first (scores x w c r))) (scores x w c r (second (scores x w c r))) := by
  unfold k0_pay9
  rw [divf_apply, addf_apply]
  show Ideal.div (Ideal.ofBits .f32 0x3F800000#32) (Ideal.ofBits .f32 0x3F800000#32
    + Ideal.exp (k0_pay7 x w c (ix2 r (0 : Fin 1)) - k0_pay4 x w c (ix2 r (0 : Fin 1)))) = _
  rw [ofBits_one, next_apply x w c r hf, best_apply]
  rfl

/-- and its second, one less the first, the runner-up's. -/
theorem nextWeight_apply : k0_pay10 (F := Ideal) x w c (ix2 r (0 : Fin 1))
    = nextWeight (scores x w c r (first (scores x w c r))) (scores x w c r (second (scores x w c r))) := by
  unfold k0_pay10
  rw [subf_apply, topWeight_apply x w c r hf]
  show Ideal.ofBits .f32 0x3F800000#32 - _ = _
  rw [ofBits_one]
  obtain ⟨u, hu⟩ := hf (first (scores x w c r))
  obtain ⟨v, hv⟩ := hf (second (scores x w c r))
  rw [hu, hv]
  exact one_sub_topWeight u v

end routing

end Cert.KernelIdeal.Block

end
-- ==== Proof.KernelBlock.lean ====
/-
  ONE BLOCK OF THE KERNEL: the 256 rows it writes at a grid point, from the blocks it loads there, are row by row the layer's
  answer (Routing.lean's `moeRow`) for the token of that row.

  One expert's contribution is stated once for every expert (`step`); the body is eight of these in a row (`out_eq_steps`).
-/
module

public import proofs.«01_k».proof.Proof.KernelRouting
public import Idealize.ShloMosaic.Lib.ValueLayout
public import Idealize.ShloMosaic.Lib.ValueIdx
public import Idealize.ShloMosaic.Lib.Pipeline.Value

@[expose] public section

noncomputable section

namespace Cert.KernelIdeal.Block

open Cert.KernelIdeal Cert.KernelIdeal.Gen Cert.Moe
open Idealize.ShloMosaic Idealize.ShloMosaic.ValueIdx

/-! ## One expert's contribution -/

/-- The body's operations for one expert: its answer for every row of the block, times the row's weight of that expert,
    added to what the earlier experts left. `n` is the expert's number as a word; `a0` and `a1` are the columns of the two
    numbers found, `c0` and `c1` those of the two weights. -/
def step (n : BitVec 32) (x : FVec Ideal S256x768 .f32) (a0 a1 : IVec S256x1 32) (c0 c1 : FVec Ideal S256x1 .f32)
    (W : Vec Ideal S1x768x768 .f32) (b : Vec Ideal S1x1x768 .f32) (W' : Vec Ideal S1x768x768 .f32)
    (b' : Vec Ideal S1x1x768 .f32) (acc : FVec Ideal S256x768 .f32) : FVec Ideal S256x768 .f32 :=
  addf acc (mulf
    (addf
      (matmul dot_S256x768_S768x768_S256x768_1_1_0_0_n_n none
        (maximumf
          (addf
            (matmul dot_S256x768_S768x768_S256x768_1_1_0_0_n_n none x
              (shapeCast S768x768 W shapeCasts_S1x768x768_S768x768 : FVec Ideal S768x768 .f32)
              (constant S256x768 .f32 0x00000000#32))
            (broadcastTo S256x768 (shapeCast S1x768 b shapeCasts_S1x1x768_S1x768) broadcasts_S1x768_S256x768))
          (broadcast S256x768 (Scalar.ofBits .f32 0x00000000#32)))
        (shapeCast S768x768 W' shapeCasts_S1x768x768_S768x768 : FVec Ideal S768x768 .f32)
        (constant S256x768 .f32 0x00000000#32))
      (broadcastTo S256x768 (shapeCast S1x768 b' shapeCasts_S1x1x768_S1x768) broadcasts_S1x768_S256x768))
    (broadcastTo S256x768
      (addf (select (cmpi .eq a0 (broadcast S256x1 n)) c0 (broadcast S256x1 (Scalar.ofBits .f32 0x00000000#32)))
        (select (cmpi .eq a1 (broadcast S256x1 n)) c1 (broadcast S256x1 (Scalar.ofBits .f32 0x00000000#32))))
      broadcasts_S256x1_S256x768))

/-- What the contribution is at a row and a lane, the row's numbers and weights being those of the scores `f`. -/
theorem step_apply (e : Fin 8) (x : FVec Ideal S256x768 .f32) (a0 a1 : IVec S256x1 32) (c0 c1 : FVec Ideal S256x1 .f32)
    (W : Vec Ideal S1x768x768 .f32) (b : Vec Ideal S1x1x768 .f32) (W' : Vec Ideal S1x768x768 .f32)
    (b' : Vec Ideal S1x1x768 .f32) (acc : FVec Ideal S256x768 .f32) (r : Fin 256) (o : Fin 768) (f : Fin 8 → EReal)
    (h0 : a0 (ix2 r (0 : Fin 1)) = BitVec.ofNat 32 (first f).val) (h1 : a1 (ix2 r (0 : Fin 1)) = BitVec.ofNat 32 (second f).val)
    (g0 : c0 (ix2 r (0 : Fin 1)) = topWeight (f (first f)) (f (second f)))
    (g1 : c1 (ix2 r (0 : Fin 1)) = nextWeight (f (first f)) (f (second f))) :
    step (BitVec.ofNat 32 e.val) x a0 a1 c0 c1 W b W' b' acc (ix2 r o)
      = acc (ix2 r o) + expert (fun k => x (ix2 r k)) (fun h k => W (ix3 (0 : Fin 1) h k)) (fun h => b (ix3 (0 : Fin 1) (0 : Fin 1) h))
          (fun h k => W' (ix3 (0 : Fin 1) h k)) (fun h => b' (ix3 (0 : Fin 1) (0 : Fin 1) h)) o * weight f e := by
  unfold step
  rw [addf_apply, mulf_apply, addf_apply, dot768_apply, broadcastTo_1b_ab_apply, spread768_apply, addf_apply, select_apply,
    select_apply, shapeCast_1ab_ab_apply]
  simp only [maximumf_apply, addf_apply, dot768_apply, broadcastTo_1b_ab_apply, shapeCast_1ab_ab_apply, broadcast_apply]
  show acc (ix2 r o) + (_ + _) * (Scalar.select (IntOp.cmpi .eq (a0 (ix2 r (0 : Fin 1))) (BitVec.ofNat 32 e.val)) (c0 (ix2 r (0 : Fin 1)))
      (Ideal.ofBits .f32 0x00000000#32)
    + Scalar.select (IntOp.cmpi .eq (a1 (ix2 r (0 : Fin 1))) (BitVec.ofNat 32 e.val)) (c1 (ix2 r (0 : Fin 1)))
      (Ideal.ofBits .f32 0x00000000#32)) = _
  rw [h0, h1, g0, g1, select_num, select_num, Ideal.ofBits_zero_f32]
  congr 3
  refine Finset.sum_congr rfl fun h _ => ?_
  congr 2
  exact Ideal.ofBits_zero_f32

/-! ## The eight contributions -/

/-- Expert `e`'s matrix, cut out of the stack of eight. -/
theorem slab_apply (X : Vec Ideal S8x768x768 .f32) (e : Fin 8) (inb : ∀ a, (![e.val, 0, 0] : Fin 3 → Nat) a + S1x768x768.size a ≤ S8x768x768.size a)
    (h k : Fin 768) : View.ld X (Rect.unit (s := S8x768x768) ![e.val, 0, 0] S1x768x768.size inb) (ix3 (0 : Fin 1) h k) = X (ix3 e h k) := by
  rw [View.ld_unit]
  exact extractStridedSlice_apply _ _ _ _ _ fun a => match a with
    | ⟨0, _⟩ => rfl
    | ⟨1, _⟩ => (Nat.zero_add _).symm
    | ⟨2, _⟩ => (Nat.zero_add _).symm

/-- Expert `e`'s bias, cut out of the stack of eight. -/
theorem strip_apply (X : Vec Ideal S8x1x768 .f32) (e : Fin 8) (inb : ∀ a, (![e.val, 0, 0] : Fin 3 → Nat) a + S1x1x768.size a ≤ S8x1x768.size a)
    (h : Fin 768) : View.ld X (Rect.unit (s := S8x1x768) ![e.val, 0, 0] S1x1x768.size inb) (ix3 (0 : Fin 1) (0 : Fin 1) h)
      = X (ix3 e (0 : Fin 1) h) := by
  rw [View.ld_unit]
  exact extractStridedSlice_apply _ _ _ _ _ fun a => match a with
    | ⟨0, _⟩ => rfl
    | ⟨1, _⟩ => rfl
    | ⟨2, _⟩ => (Nat.zero_add _).symm

section out

variable (x0 : Vec Ideal S256x768 .f32) (x1 : Vec Ideal S8x768x768 .f32) (x2 : Vec Ideal S8x1x768 .f32)
  (x3 : Vec Ideal S8x768x768 .f32) (x4 : Vec Ideal S8x1x768 .f32) (x5 : Vec Ideal S8x768 .f32) (x6 : Vec Ideal S1x8 .f32)

/-- The offsets of a load of a whole two-axis buffer are all zero. -/
theorem zero_offsets : (![0, 0] : Fin 2 → Nat) = fun _ => 0 := funext fun a => match a with
  | ⟨0, _⟩ => rfl
  | ⟨1, _⟩ => rfl

/-- Every expert's slab lies within the stack of matrices. -/
theorem slab_inb (e : Fin 8) : ∀ a, (![e.val, 0, 0] : Fin 3 → Nat) a + S1x768x768.size a ≤ S8x768x768.size a := fun a => match a with
  | ⟨0, _⟩ => e.isLt
  | ⟨1, _⟩ => le_rfl
  | ⟨2, _⟩ => le_rfl

/-- Every expert's strip lies within the stack of biases. -/
theorem strip_inb (e : Fin 8) : ∀ a, (![e.val, 0, 0] : Fin 3 → Nat) a + S1x1x768.size a ≤ S8x1x768.size a := fun a => match a with
  | ⟨0, _⟩ => e.isLt
  | ⟨1, _⟩ => le_rfl
  | ⟨2, _⟩ => le_rfl

/-- Expert `e`'s step on the blocks loaded at a grid point. -/
def stepOf (e : Fin 8) (acc : FVec Ideal S256x768 .f32) : FVec Ideal S256x768 .f32 :=
  step (BitVec.ofNat 32 e.val) (k0_pay2 x0) (k0_pay5 x0 x5 x6) (k0_pay8 x0 x5 x6) (k0_pay9 x0 x5 x6) (k0_pay10 x0 x5 x6)
    (View.ld x1 (Rect.unit (s := S8x768x768) ![e.val, 0, 0] S1x768x768.size (slab_inb e)))
    (View.ld x2 (Rect.unit (s := S8x1x768) ![e.val, 0, 0] S1x1x768.size (strip_inb e)))
    (View.ld x3 (Rect.unit (s := S8x768x768) ![e.val, 0, 0] S1x768x768.size (slab_inb e)))
    (View.ld x4 (Rect.unit (s := S8x1x768) ![e.val, 0, 0] S1x1x768.size (strip_inb e))) acc

/-- THE BODY is the eight experts' steps, in order, from zero. -/
theorem out_eq_steps : out0_7 x0 x1 x2 x3 x4 x5 x6
    = stepOf x0 x1 x2 x3 x4 x5 x6 7 (stepOf x0 x1 x2 x3 x4 x5 x6 6 (stepOf x0 x1 x2 x3 x4 x5 x6 5 (stepOf x0 x1 x2 x3 x4 x5 x6 4
      (stepOf x0 x1 x2 x3 x4 x5 x6 3 (stepOf x0 x1 x2 x3 x4 x5 x6 2 (stepOf x0 x1 x2 x3 x4 x5 x6 1
        (stepOf x0 x1 x2 x3 x4 x5 x6 0 (k0_pay11 (F := Ideal))))))))) := by
  unfold_out out0_7
  rw [View.canon_unit_zero zero_offsets, View.ld_unit_zero zero_offsets, View.ld_unit_zero zero_offsets,
    View.ld_unit_zero zero_offsets]
  unfold k0_pay1 k0_pay27 k0_pay25 k0_pay23 k0_pay18 k0_pay15 k0_pay12 k0_pay13 k0_pay14 k0_pay16 k0_pay17 k0_pay19 k0_pay20 k0_pay21 k0_pay22 k0_pay24 k0_pay26 k0_pay28 k0_pay29
  unfold stepOf step
  rfl

variable (r : Fin 256) (hf : ∀ e, ∃ q : ℝ, scores x0 x5 x6 r e = q)
include hf

/-- Expert `e`'s step at a row and a lane. -/
theorem stepOf_apply (e : Fin 8) (acc : FVec Ideal S256x768 .f32) (o : Fin 768) :
    stepOf x0 x1 x2 x3 x4 x5 x6 e acc (ix2 r o)
      = acc (ix2 r o) + expert (fun k => x0 (ix2 r k)) (fun h k => x1 (ix3 e h k)) (fun h => x2 (ix3 e (0 : Fin 1) h))
          (fun h k => x3 (ix3 e h k)) (fun h => x4 (ix3 e (0 : Fin 1) h)) o * weight (scores x0 x5 x6 r) e := by
  unfold stepOf
  rw [step_apply e _ _ _ _ _ _ _ _ _ acc r o (scores x0 x5 x6 r) (bestNum_apply x0 x5 x6 r) (nextNum_apply x0 x5 x6 r hf)
    (topWeight_apply x0 x5 x6 r hf) (nextWeight_apply x0 x5 x6 r hf)]
  have hx : k0_pay2 (F := Ideal) x0 = x0 := shapeCast_self x0 _
  have hW : ∀ X : Vec Ideal S8x768x768 .f32, (fun h k : Fin 768 => View.ld X (Rect.unit (s := S8x768x768) ![e.val, 0, 0]
      S1x768x768.size (slab_inb e)) (ix3 (0 : Fin 1) h k)) = fun h k => X (ix3 e h k) := fun X =>
    funext fun h => funext fun k => slab_apply X e _ h k
  have hb : ∀ X : Vec Ideal S8x1x768 .f32, (fun h : Fin 768 => View.ld X (Rect.unit (s := S8x1x768) ![e.val, 0, 0]
      S1x1x768.size (strip_inb e)) (ix3 (0 : Fin 1) (0 : Fin 1) h)) = fun h => X (ix3 e (0 : Fin 1) h) := fun X =>
    funext fun h => strip_apply X e _ h
  rw [hx, hW, hW, hb, hb]

/-- THE BLOCK the body writes, at a row and a lane, is the layer's answer for that row. -/
theorem out_apply (o : Fin 768) : out0_7 x0 x1 x2 x3 x4 x5 x6 (ix2 r o)
    = moeRow (fun k => x0 (ix2 r k)) (fun e h k => x1 (ix3 e h k)) (fun e h => x2 (ix3 e (0 : Fin 1) h))
        (fun e h k => x3 (ix3 e h k)) (fun e h => x4 (ix3 e (0 : Fin 1) h)) (scores x0 x5 x6 r) o := by
  rw [out_eq_steps]
  simp only [stepOf_apply x0 x1 x2 x3 x4 x5 x6 r hf]
  unfold moeRow
  rw [Fin.sum_univ_eight]
  congr 7
  show Ideal.ofBits .f32 0x00000000#32 + _ = _
  rw [Ideal.ofBits_zero_f32, zero_add]

end out

end Cert.KernelIdeal.Block

end
-- ==== Proof.Layer.lean ====
/-
  THE LAYER on its argument arrays: at token `n` of batch `b`, the answer of Routing.lean's `moeRow` to the token's row and
  its scores. Both programs are shown to end holding this array.
-/
module

public import proofs.«01_k».proof.Proof.Routing
public import Idealize.ShloMosaic.Lib.ValueIdx

@[expose] public section

noncomputable section

namespace Cert.Moe

open Idealize.ShloMosaic Idealize.ShloMosaic.ValueIdx

variable (x : (⟨3, ![4, 2048, 768]⟩ : Shape).Idx → EReal) (W : (⟨3, ![8, 768, 768]⟩ : Shape).Idx → EReal)
  (v : (⟨2, ![8, 768]⟩ : Shape).Idx → EReal) (W' : (⟨3, ![8, 768, 768]⟩ : Shape).Idx → EReal)
  (v' : (⟨2, ![8, 768]⟩ : Shape).Idx → EReal) (w : (⟨2, ![8, 768]⟩ : Shape).Idx → EReal) (c : (⟨1, ![8]⟩ : Shape).Idx → EReal)

/-- The eight scores of token `n` of batch `b`. -/
def tokenScores (b : Fin 4) (n : Fin 2048) : Fin 8 → EReal :=
  score (fun k => x (ix3 b n k)) (fun e k => w (ix2 e k)) (fun e => c (ix1 e))

/-- The layer's answer at token `n` of batch `b`, lane `o`. -/
def layer (b : Fin 4) (n : Fin 2048) (o : Fin 768) : EReal :=
  moeRow (fun k => x (ix3 b n k)) (fun e h k => W (ix3 e h k)) (fun e h => v (ix2 e h)) (fun e h k => W' (ix3 e h k))
    (fun e h => v' (ix2 e h)) (tokenScores x w c b n) o

/-- The same as an array. -/
def layerArray : (⟨3, ![4, 2048, 768]⟩ : Shape).Idx → EReal := fun i => layer x W v W' v' w c (i 0) (i 1) (i 2)

end Cert.Moe

end
-- ==== Proof.KernelValue.lean ====
/-
  THE KERNEL'S RESULT: after the run the result array holds the layer's answer (Layer.lean) at every token and lane.

  The kernel works on the tokens as one list of 8192 rows, 256 to a grid point. What a point writes back is its block of one
  whole array (`flushed_eq`), the 32 blocks cover the 8192 rows (`cover`), so the array ends holding that whole array
  (`final_o`); the reshape after the region splits the list into 4 batches of 2048 (`result_eq`).
-/
module

public import proofs.«01_k».proof.Proof.KernelBlock
public import proofs.«01_k».proof.Proof.Layer

@[expose] public section

noncomputable section

namespace Cert.KernelIdeal.Block

open Cert.KernelIdeal Cert.KernelIdeal.Gen Cert.Moe
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## The argument arrays, and the arrays the region finds -/

/-- The tokens. -/
abbrev argX : S4x2048x768.Idx → EReal := m ((c : Thread nD τ).loc main_arg0)
/-- The experts' first matrices, -/
abbrev argW : S8x768x768.Idx → EReal := m ((c : Thread nD τ).loc main_arg1)
/-- their first biases, -/
abbrev argB : S8x768.Idx → EReal := m ((c : Thread nD τ).loc main_arg2)
/-- their second matrices, -/
abbrev argW' : S8x768x768.Idx → EReal := m ((c : Thread nD τ).loc main_arg3)
/-- and their second biases. -/
abbrev argB' : S8x768.Idx → EReal := m ((c : Thread nD τ).loc main_arg4)
/-- The router's rows -/
abbrev argR : S8x768.Idx → EReal := m ((c : Thread nD τ).loc main_arg5)
/-- and its biases. -/
abbrev argC : S8.Idx → EReal := m ((c : Thread nD τ).loc main_arg6)

/-- The tokens as the region finds them: one list of rows. -/
theorem V_main_v0 : V m c main_v0 = shapeCast S8192x768 (argX m c) shapeCasts_S4x2048x768_S8192x768 := by
  show StableHlo.after (List.flatten [hostOps0]) (fun b => m (c, b)) (Proc.devRef .tc main_v0) = _
  simp only [hostOps0, List.flatten_cons, List.flatten_nil, List.append_nil]
  after_results
  rfl

/-- The first biases as the region finds them. -/
theorem V_main_v1 : V m c main_v1 = shapeCast S8x1x768 (argB m c) shapeCasts_S8x768_S8x1x768 := by
  show StableHlo.after (List.flatten [hostOps0]) (fun b => m (c, b)) (Proc.devRef .tc main_v1) = _
  simp only [hostOps0, List.flatten_cons, List.flatten_nil, List.append_nil]
  after_results
  rfl

/-- The second biases as the region finds them. -/
theorem V_main_v2 : V m c main_v2 = shapeCast S8x1x768 (argB' m c) shapeCasts_S8x768_S8x1x768 := by
  show StableHlo.after (List.flatten [hostOps0]) (fun b => m (c, b)) (Proc.devRef .tc main_v2) = _
  simp only [hostOps0, List.flatten_cons, List.flatten_nil, List.append_nil]
  after_results
  rfl

/-- The router's biases as the region finds them. -/
theorem V_main_v3 : V m c main_v3 = shapeCast S1x8 (argC m c) shapeCasts_S8_S1x8 := by
  show StableHlo.after (List.flatten [hostOps0]) (fun b => m (c, b)) (Proc.devRef .tc main_v3) = _
  simp only [hostOps0, List.flatten_cons, List.flatten_nil, List.append_nil]
  after_results
  rfl

/-! ## The blocks loaded at a grid point -/

/-- The batch of row `i` of the list, -/
def batchOf (i : Fin 8192) : Fin 4 := ⟨i.val / 2048, by omega⟩
/-- and its token. -/
def tokenOf (i : Fin 8192) : Fin 2048 := ⟨i.val % 2048, by omega⟩

/-- Row `r` of the block at point `t`, in the list of rows. -/
def rowOf (t : Fin cfg0.N) (r : Fin 256) : Fin 8192 :=
  ⟨t.val * 256 + r.val, by have := t.isLt; have h : cfg0.N = 32 := N_0; omega⟩

/-- Where the block of rows at point `t` lies: block `t` of the list. -/
theorem index_x : ∀ t : Fin cfg0.N, win0_0.index t 0 = t.val ∧ win0_0.index t 1 = 0 := by decide +kernel
/-- The first matrices are loaded whole, -/
theorem index_W : ∀ (t : Fin cfg0.N) (a : Fin 3), win0_1.index t a = 0 := by decide +kernel
/-- the first biases too, -/
theorem index_b : ∀ (t : Fin cfg0.N) (a : Fin 3), win0_2.index t a = 0 := by decide +kernel
/-- the second matrices, -/
theorem index_W' : ∀ (t : Fin cfg0.N) (a : Fin 3), win0_3.index t a = 0 := by decide +kernel
/-- the second biases, -/
theorem index_b' : ∀ (t : Fin cfg0.N) (a : Fin 3), win0_4.index t a = 0 := by decide +kernel
/-- the router's rows -/
theorem index_r : ∀ (t : Fin cfg0.N) (a : Fin 2), win0_5.index t a = 0 := by decide +kernel
/-- and its biases. -/
theorem index_c : ∀ (t : Fin cfg0.N) (a : Fin 2), win0_6.index t a = 0 := by decide +kernel
/-- The block written back at point `t` is block `t` of the list. -/
theorem index_o : ∀ t : Fin cfg0.N, win0_7.index t 0 = t.val ∧ win0_7.index t 1 = 0 := by decide +kernel

/-- The tokens' block at point `t`. -/
theorem block_x (t : Fin cfg0.N) (r : Fin 256) (k : Fin 768) :
    (iblk m c 0 t : Vec Ideal S256x768 .f32) (ix2 r k) = argX m c (ix3 (batchOf (rowOf t r)) (tokenOf (rowOf t r)) k) := by
  have e : (win0_0.rect t).emb (ix2 r k) = ix2 (rowOf t r) k := funext fun a => Fin.ext (match a with
    | ⟨0, _⟩ => (win0_0.rect_emb_val t (ix2 r k) 0).trans (by rw [(index_x t).1]; rfl)
    | ⟨1, _⟩ => win0_0.rect_emb_val_of_index_zero t 1 (index_x t).2 (ix2 r k))
  show V m c main_v0 ((win0_0.rect t).emb (ix2 r k)) = _
  rw [e, V_main_v0]
  refine shapeCast_apply _ _ _ _ ?_
  rw [Shape.rowMajor_val_two, Shape.rowMajor_val_three]
  show ((rowOf t r).val / 2048 * 2048 + (rowOf t r).val % 2048) * 768 + k.val = (rowOf t r).val * 768 + k.val
  rw [Nat.div_add_mod']

/-- The first matrices' block. -/
theorem block_W (t : Fin cfg0.N) : (iblk m c 1 t : Vec Ideal S8x768x768 .f32) = argW m c := funext fun i => by
  have e : (win0_1.rect t).emb i = i := funext fun a => Fin.ext (win0_1.rect_emb_val_of_index_zero t a (index_W t a) i)
  show V m c main_arg1 ((win0_1.rect t).emb i) = _
  rw [e, V_main_arg1]

/-- The second matrices' block. -/
theorem block_W' (t : Fin cfg0.N) : (iblk m c 3 t : Vec Ideal S8x768x768 .f32) = argW' m c := funext fun i => by
  have e : (win0_3.rect t).emb i = i := funext fun a => Fin.ext (win0_3.rect_emb_val_of_index_zero t a (index_W' t a) i)
  show V m c main_arg3 ((win0_3.rect t).emb i) = _
  rw [e, V_main_arg3]

/-- The router's rows' block. -/
theorem block_r (t : Fin cfg0.N) : (iblk m c 5 t : Vec Ideal S8x768 .f32) = argR m c := funext fun i => by
  have e : (win0_5.rect t).emb i = i := funext fun a => Fin.ext (win0_5.rect_emb_val_of_index_zero t a (index_r t a) i)
  show V m c main_arg5 ((win0_5.rect t).emb i) = _
  rw [e, V_main_arg5]

/-- A bias array with a unit axis put in, read at an index. -/
theorem bias_apply (y : S8x768.Idx → EReal) (e : Fin 8) (h : Fin 768) :
    shapeCast S8x1x768 y shapeCasts_S8x768_S8x1x768 (ix3 e (0 : Fin 1) h) = y (ix2 e h) := by
  refine shapeCast_apply _ _ _ _ ?_
  rw [Shape.rowMajor_val_two, Shape.rowMajor_val_three]
  show e.val * 768 + h.val = (e.val * 1 + 0) * 768 + h.val
  omega

/-- The first biases' block. -/
theorem block_b (t : Fin cfg0.N) (e : Fin 8) (h : Fin 768) :
    (iblk m c 2 t : Vec Ideal S8x1x768 .f32) (ix3 e (0 : Fin 1) h) = argB m c (ix2 e h) := by
  have q : (win0_2.rect t).emb (ix3 e (0 : Fin 1) h) = ix3 e (0 : Fin 1) h :=
    funext fun a => Fin.ext (win0_2.rect_emb_val_of_index_zero t a (index_b t a) _)
  show V m c main_v1 ((win0_2.rect t).emb (ix3 e (0 : Fin 1) h)) = _
  rw [q, V_main_v1]
  exact bias_apply _ e h

/-- The second biases' block. -/
theorem block_b' (t : Fin cfg0.N) (e : Fin 8) (h : Fin 768) :
    (iblk m c 4 t : Vec Ideal S8x1x768 .f32) (ix3 e (0 : Fin 1) h) = argB' m c (ix2 e h) := by
  have q : (win0_4.rect t).emb (ix3 e (0 : Fin 1) h) = ix3 e (0 : Fin 1) h :=
    funext fun a => Fin.ext (win0_4.rect_emb_val_of_index_zero t a (index_b' t a) _)
  show V m c main_v2 ((win0_4.rect t).emb (ix3 e (0 : Fin 1) h)) = _
  rw [q, V_main_v2]
  exact bias_apply _ e h

/-- The router's biases' block. -/
theorem block_c (t : Fin cfg0.N) (e : Fin 8) :
    (iblk m c 6 t : Vec Ideal S1x8 .f32) (ix2 (0 : Fin 1) e) = argC m c (ix1 e) := by
  have q : (win0_6.rect t).emb (ix2 (0 : Fin 1) e) = ix2 (0 : Fin 1) e :=
    funext fun a => Fin.ext (win0_6.rect_emb_val_of_index_zero t a (index_c t a) _)
  show V m c main_v3 ((win0_6.rect t).emb (ix2 (0 : Fin 1) e)) = _
  rw [q, V_main_v3]
  refine shapeCast_apply _ _ _ _ ?_
  rw [Shape.rowMajor_val_two, Shape.rowMajor_val_one]
  show e.val = 0 * 8 + e.val
  omega

/-- The scores of a row of the block are those of its token. -/
theorem block_scores (t : Fin cfg0.N) (r : Fin 256) :
    scores (iblk m c 0 t) (iblk m c 5 t) (iblk m c 6 t) r
      = tokenScores (argX m c) (argR m c) (argC m c) (batchOf (rowOf t r)) (tokenOf (rowOf t r)) := by
  unfold scores tokenScores
  simp only [block_x, block_r, block_c]

/-! ## The result array -/

/-- The layer's answer at token `n` of batch `b`, lane `o`, from the argument arrays. -/
abbrev answer (b : Fin 4) (n : Fin 2048) (o : Fin 768) : EReal :=
  layer (argX m c) (argW m c) (argB m c) (argW' m c) (argB' m c) (argR m c) (argC m c) b n o

/-- The list of 8192 rows the region is shown to leave. -/
def rows : S8192x768.Idx → EReal := fun i => answer m c (batchOf (i 0)) (tokenOf (i 0)) (i 1)

/-- Every token's scores are reals. -/
def RealScores : Prop := ∀ b n e, ∃ q : ℝ, tokenScores (argX m c) (argR m c) (argC m c) b n e = q

variable (hf : RealScores m c)
include hf

/-- What point `t` writes back is its block of the list. -/
theorem flushed_eq (t : Fin cfg0.N) : (dats m 0 c).flushed 7 t = (win0_7.blk t).view.read (Elt Ideal) (rows m c) := by
  show (cfg0.win 7).cut (grid0.coords t) ((dats m 0 c).after 7 t) = _
  rw [after0_7]
  funext y
  obtain ⟨r, o, rfl⟩ : ∃ (r : Fin 256) (o : Fin 768), y = ix2 r o := ⟨_, _, eq_ix2 y⟩
  have q : (win0_7.rect t).emb (ix2 r o) = ix2 (rowOf t r) o := funext fun a => Fin.ext (match a with
    | ⟨0, _⟩ => (win0_7.rect_emb_val t (ix2 r o) 0).trans (by rw [(index_o t).1]; rfl)
    | ⟨1, _⟩ => win0_7.rect_emb_val_of_index_zero t 1 (index_o t).2 (ix2 r o))
  show out0_7 (iblk m c 0 t) (iblk m c 1 t) (iblk m c 2 t) (iblk m c 3 t) (iblk m c 4 t) (iblk m c 5 t) (iblk m c 6 t) (ix2 r o)
    = rows m c ((win0_7.rect t).emb (ix2 r o))
  rw [q, out_apply _ _ _ _ _ _ _ r (fun e => by rw [block_scores]; exact hf _ _ e), block_scores]
  simp only [block_x, block_W, block_W', block_b, block_b']
  rfl

omit hf in
/-- A row of the list is in the block of point `t` when it is one of the 256 rows from `256 t` on. -/
theorem mem_blk (t : Fin cfg0.N) (i : S8192x768.Idx) :
    i ∈ ((cfg0.win 7).blk t).view.set ↔ t.val * 256 ≤ (i 0 : Nat) ∧ (i 0 : Nat) < t.val * 256 + 256 := by
  show i ∈ ((View.whole main_v4).slice (win0_7.rect t)).set ↔ _
  rw [View.set_slice_whole, Rect.mem_set_unit]
  have h1 : (i 1 : Nat) < 768 := (i 1).isLt
  have e0 : win0_7.index t 0 * win0_7.size 0 = t.val * 256 := by rw [(index_o t).1]; rfl
  have e1 : win0_7.index t 1 * win0_7.size 1 = 0 := by rw [(index_o t).2]; exact Nat.zero_mul _
  refine ⟨fun h => ?_, fun h a => ?_⟩
  · have : win0_7.index t 0 * win0_7.size 0 ≤ (i 0 : Nat) ∧ (i 0 : Nat) < win0_7.index t 0 * win0_7.size 0 + 256 := h 0
    rw [e0] at this; exact this
  · match a with
    | ⟨0, _⟩ => show win0_7.index t 0 * win0_7.size 0 ≤ (i 0 : Nat) ∧ (i 0 : Nat) < win0_7.index t 0 * win0_7.size 0 + 256
                rw [e0]; exact h
    | ⟨1, _⟩ => show win0_7.index t 1 * win0_7.size 1 ≤ (i 1 : Nat) ∧ (i 1 : Nat) < win0_7.index t 1 * win0_7.size 1 + 768
                rw [e1]; omega

omit hf in
/-- The 32 blocks cover the list. -/
theorem cover (i : S8192x768.Idx) : ∃ t : Fin cfg0.N, (cfg0.win 7).flush t = true ∧ i ∈ ((cfg0.win 7).blk t).view.set := by
  have h0 : (i 0 : Nat) < 8192 := (i 0).isLt
  have hN : cfg0.N = 32 := N_0
  refine ⟨⟨(i 0 : Nat) / 256, by omega⟩, flush0_7 _, ?_⟩
  rw [mem_blk]
  dsimp only
  omega

/-- So the region leaves the list, -/
theorem final_o : (dats m 0 c).arrAt 7 cfg0.N = rows m c :=
  (dats m 0 c).arrAt_eq_of_cover 7 (rows m c) (fun t _ => flushed_eq m c hf t) cover

/-- and the reshape after it the layer's array. -/
theorem result_eq : Pipeline.afterTail₀ cfgs (dats m) 0 (V0 m) [hostOps1] c main_v5
    = layerArray (argX m c) (argW m c) (argB m c) (argW' m c) (argB' m c) (argR m c) (argC m c) := by
  have h4 : Pipeline.withArrays spec0 c (V0 m c) (fun w => (dats m 0 c).arrAt w cfg0.N) (Proc.devRef .tc main_v4) = rows m c :=
    (Pipeline.withArrays_arr spec0 (by decide) c (V0 m c) (fun w => (dats m 0 c).arrAt w cfg0.N) 7).trans (final_o m c hf)
  have h5 : Pipeline.afterTail₀ cfgs (dats m) 0 (V0 m) [hostOps1] c main_v5
      = shapeCast S4x2048x768 (rows m c) shapeCasts_S8192x768_S4x2048x768 := by
    rw [← h4]
    unfold Pipeline.afterTail₀
    simp only [hostOps1, List.flatten_cons, List.flatten_nil, List.append_nil]
    after_results
    rfl
  rw [h5]
  funext i
  obtain ⟨b, n, o, rfl⟩ : ∃ (b : Fin 4) (n : Fin 2048) (o : Fin 768), i = ix3 b n o := ⟨_, _, _, eq_ix3 i⟩
  have hi : b.val * 2048 + n.val < 8192 := by omega
  refine (shapeCast_apply (rows m c) _ (ix3 b n o) (ix2 (⟨b.val * 2048 + n.val, hi⟩ : Fin 8192) o) ?_).trans ?_
  · rw [Shape.rowMajor_val_two, Shape.rowMajor_val_three]
    rfl
  · have hb : batchOf (⟨b.val * 2048 + n.val, hi⟩ : Fin 8192) = b := Fin.ext (by show (b.val * 2048 + n.val) / 2048 = b.val; omega)
    have hn : tokenOf (⟨b.val * 2048 + n.val, hi⟩ : Fin 8192) = n := Fin.ext (by show (b.val * 2048 + n.val) % 2048 = n.val; omega)
    show answer m c (batchOf (⟨b.val * 2048 + n.val, hi⟩ : Fin 8192)) (tokenOf (⟨b.val * 2048 + n.val, hi⟩ : Fin 8192)) o
      = answer m c b n o
    rw [hb, hn]

end Cert.KernelIdeal.Block

namespace Cert.KernelIdeal.Block

open Cert.KernelIdeal Cert.KernelIdeal.Gen Cert.Moe
open Idealize.ShloMosaic Idealize.ShloMosaic.TcCoe Idealize.SL.Sem

/-- THE KERNEL'S RUN: with real scores the result array ends at the layer's answer, and the arguments unchanged. -/
theorem run (m : (ℓ : Loc nD τ sig) → Buf (Elt Ideal) ℓ) (ρ : Dev nD → PrngReg) (hf : ∀ c, RealScores m c) :
    θ_run defs (onTc (τ := τ) (main (F := Ideal))) ⟨m, fun _ => 0, ρ⟩ fun r =>
      ∀ c : Dev nD, r.2.mem ((c.tc : Thread nD τ).loc main_v5)
        = layerArray (argX m c) (argW m c) (argB m c) (argW' m c) (argB' m c) (argR m c) (argC m c) :=
  (θ_run defs _ _).mono (fun _ h c => ((h c).2 main_v5 (Pipeline.mem_restRefs_of main_v5 (by decide) (by decide))).trans
    (result_eq m c (hf c))) (run_main m ρ)

end Cert.KernelIdeal.Block

end
-- ==== Proof.TopTwo.lean ====
/-
  THE TWO GREATEST OF EIGHT, as a stable sort finds them: along a fiber of eight scores, sorted greater first and equal
  ones in their own order, the first two positions come from `first` and `second` (Routing.lean). So the values and the
  numbers a top-two operation returns are those of the best expert and of the runner-up.
-/
module

public import proofs.«01_k».proof.Proof.Routing
public import Idealize.ShloMosaic.Lib.SortPrefix
public import Idealize.ShloMosaic.Lib.ValueIdx
public import Idealize.ShloMosaic.Lib.Pipeline.Value

@[expose] public section

noncomputable section

namespace Cert.Moe

open Idealize.ShloMosaic Idealize.ShloMosaic.ValueIdx

/-- "Greater first": position `k` goes before position `k'` when it scores more. -/
def greater (f : Fin 8 → EReal) (k k' : Fin 8) : Bool := decide (f k' < f k)

/-- "Greater first, and then the lower number". -/
def greaterThenLower (f : Fin 8 → EReal) (k k' : Fin 8) : Bool :=
  decide (f k' < f k) || (decide (f k = f k') && decide (k < k'))

/-- "Greater first, and then the lower number" puts any two positions in order. -/
theorem greaterThenLower_total (f : Fin 8 → EReal) : StrictTotalBefore (greaterThenLower f) := by
  refine StrictTotalBefore.of_key_then_position (fun u v : EReal => decide (v < u)) f ?_ ?_ ?_
  · intro u; simp
  · intro u v w huv hvw
    simp only [decide_eq_true_eq] at *
    exact hvw.trans huv
  · intro u v
    simp only [decide_eq_true_eq]
    rcases lt_trichotomy u v with h | h | h
    · exact Or.inr (Or.inr h)
    · exact Or.inr (Or.inl h)
    · exact Or.inl h

/-- A stable sort keeps equal scores in their own order, so on a list of positions in increasing order it is the sort that
    also compares the positions: an element is inserted among later ones only. -/
theorem stableSort_greater (f : Fin 8 → EReal) (l : List (Fin 8)) (hl : l.Pairwise (· < ·)) :
    stableSort (greater f) l = stableSort (greaterThenLower f) l := by
  induction l with
  | nil => rfl
  | cons p l ih =>
    rw [List.pairwise_cons] at hl
    unfold stableSort
    rw [ih hl.2]
    refine insertBefore_congr _ _ p _ fun q hq => ?_
    have hpq : p < q := hl.1 q ((perm_stableSort _ l).mem_iff.mp hq)
    unfold greater greaterThenLower
    rw [decide_eq_false (not_lt.mpr hpq.le), Bool.and_false, Bool.or_false]

/-- So the two sorts send the same position to each place. -/
theorem sortedFrom_greater (f : Fin 8 → EReal) (k : Fin 8) :
    sortedFrom (greater f) k = sortedFrom (greaterThenLower f) k := by
  unfold sortedFrom
  rw [List.get_of_eq (show sortPositions 8 (greater f) = sortPositions 8 (greaterThenLower f) from
    stableSort_greater f _ (List.pairwise_lt_finRange 8))]
  rfl

/-- A position that the best of a set containing it does not beat strictly comes after it. -/
theorem Leads.not_before {f : Fin 8 → EReal} {S : Finset (Fin 8)} {a k : Fin 8} (h : Leads f S a) (hk : k ∈ S) :
    greaterThenLower f k a = false := by
  unfold greaterThenLower
  rcases h.top k hk with hl | ⟨he, hle⟩
  · rw [decide_eq_false (not_lt.mpr hl.le), decide_eq_false hl.ne, Bool.false_and, Bool.or_false]
  · rw [decide_eq_false (not_lt.mpr he.le), decide_eq_false (not_lt.mpr hle), Bool.and_false, Bool.or_false]

/-- The first two places of the sort are the best expert's and the runner-up's. -/
theorem sortedFrom_place (f : Fin 8 → EReal) (j : Fin 2) :
    sortedFrom (greater f) (j.castLE (by decide)) = place f j := by
  rw [sortedFrom_greater]
  refine (greaterThenLower_total f).sortedFrom_eq_of_prefix (by decide) (place f) ?_ ?_ ?_ j
  · intro i i' h
    fin_cases i <;> fin_cases i' <;> first
      | rfl
      | exact absurd h (second_ne_first f).symm
      | exact absurd h (second_ne_first f)
  · intro i i' h
    fin_cases i <;> fin_cases i' <;> first
      | exact absurd h (by decide)
      | exact (first_leads f).not_before (Finset.mem_univ _)
  · intro i p hp
    fin_cases i
    · exact (first_leads f).not_before (Finset.mem_univ _)
    · exact (second_leads f).not_before (Finset.mem_erase.mpr ⟨fun e => hp 0 e.symm, Finset.mem_univ _⟩)

section read

variable {p q : Nat} (x : (⟨3, ![p, q, 8]⟩ : Shape).Idx → EReal)
  (h : (⟨3, ![p, q, 8]⟩ : Shape).Slices (fun _ => 0) ⟨3, ![p, q, 2]⟩) (i : Fin p) (n : Fin q) (j : Fin 2)

/-- The scores of one token. -/
def fiber (i : Fin p) (n : Fin q) (k : Fin 8) : EReal := x (ix3 i n k)

/-- The comparison a top-k sorts by, of two scores, is "greater first". -/
theorem greater_eq (u v : EReal) : (FloatOps.cmpfTotal (F := Ideal) (φ := .f32) .gt u v == 1#1) = decide (v < u) := by
  rw [Ideal.cmpfTotal_def]
  show (BitVec.ofBool (decide (v < u)) == 1#1) = _
  by_cases hh : v < u <;> simp [hh]

/-- The index with the sorted position put in its place along the last axis. -/
theorem along_eq (k k' : Fin 8) : Shape.Idx.along (s := ⟨3, ![p, q, 8]⟩) (ix3 i n k) 2 k' = ix3 i n k' := by
  funext a
  unfold Shape.Idx.along
  match a with
  | ⟨0, _⟩ => rfl
  | ⟨1, _⟩ => rfl
  | ⟨2, _⟩ => rfl

/-- The position the sort takes the `j`-th entry of a token's list from. -/
theorem topK_source :
    sortedFrom (fun k k' : Fin 8 =>
      FloatOps.cmpfTotal (F := Ideal) (φ := .f32) .gt
        (x (Shape.Idx.along (s := ⟨3, ![p, q, 8]⟩) (ix3 i n (j.castLE (by decide))) 2 k))
        (x (Shape.Idx.along (s := ⟨3, ![p, q, 8]⟩) (ix3 i n (j.castLE (by decide))) 2 k')) == 1#1) (j.castLE (by decide))
      = place (fiber x i n) j := by
  rw [← sortedFrom_place]
  congr 1
  funext k k'
  rw [greater_eq, along_eq, along_eq]
  rfl

/-- The values a top-two along the last axis returns: the best score and the runner-up's. -/
theorem topK_values_apply :
    (Host.topK ⟨3, ![p, q, 2]⟩ 2 (FloatOps.cmpfTotal (F := Ideal) (φ := .f32) .gt) x h).1 (ix3 i n j)
      = fiber x i n (place (fiber x i n) j) := by
  unfold Host.topK
  dsimp only
  rw [extractStridedSlice_apply _ _ h (ix3 i n j) (ix3 i n (j.castLE (by decide))) (fun a => by
    match a with
    | ⟨0, _⟩ => exact (Nat.zero_add _).symm
    | ⟨1, _⟩ => exact (Nat.zero_add _).symm
    | ⟨2, _⟩ => exact (Nat.zero_add _).symm)]
  unfold Host.sort2
  rw [dif_pos (by decide : 2 < 3)]
  dsimp only
  refine (congrArg x ?_).trans (rfl : x (ix3 i n (place (fiber x i n) j)) = _)
  refine (along_eq i n _ _).trans ?_
  exact congrArg (ix3 i n) (topK_source x i n j)

/-- The numbers it returns: theirs, as 32-bit words. -/
theorem topK_indices_apply :
    (Host.topK ⟨3, ![p, q, 2]⟩ 2 (FloatOps.cmpfTotal (F := Ideal) (φ := .f32) .gt) x h).2 (ix3 i n j)
      = BitVec.ofNat 32 (place (fiber x i n) j).val := by
  unfold Host.topK
  dsimp only
  rw [extractStridedSlice_apply _ _ h (ix3 i n j) (ix3 i n (j.castLE (by decide))) (fun a => by
    match a with
    | ⟨0, _⟩ => exact (Nat.zero_add _).symm
    | ⟨1, _⟩ => exact (Nat.zero_add _).symm
    | ⟨2, _⟩ => exact (Nat.zero_add _).symm)]
  unfold Host.sort2
  rw [dif_pos (by decide : 2 < 3)]
  dsimp only
  rw [dif_pos (by decide : 2 < 3)]
  show BitVec.ofNat 32 _ = _
  exact congrArg (fun k : Fin 8 => BitVec.ofNat 32 k.val) (topK_source x i n j)

end read

end Cert.Moe

end
-- ==== Proof.ReferenceRouting.lean ====
/-
  THE REFERENCE'S ROUTING: for each token, the numbers of the two experts its top-two operation finds and their softmax
  shares, in terms of Routing.lean's `place` and `share`. Also the reads of the layout operations and the product the
  reference uses for every expert alike.
-/
module

public import proofs.«01_k».proof.Proof.Layer
public import proofs.«01_k».proof.Proof.TopTwo
public import proofs.«01_k».proof.Proof.Products
public import proofs.«01_k».proof.Proof.Gen.ReferenceIdeal.Read
public import Idealize.ShloMosaic.Lib.ValueIdx
public import Idealize.ShloMosaic.Lib.IdealHost

@[expose] public section

noncomputable section

namespace Cert.ReferenceIdeal.Rows

open Cert.ReferenceIdeal Cert.ReferenceIdeal.Gen Cert.ReferenceIdeal.Read Cert.Moe
open Idealize.ShloMosaic Idealize.ShloMosaic.ValueIdx

/-! ## Layout -/

/-- A number per token, put in a column. -/
theorem column_apply {α : Type} (v : S4x2048.Idx → α) (b : Fin 4) (n : Fin 2048) :
    broadcastInDim S4x2048x1 ![0, 1] bcast_S4x2048_S4x2048x1_0_1 v (ix3 b n (0 : Fin 1)) = v (ix2 b n) :=
  broadcastInDim_apply _ _ v _ _ fun a => match a with
    | ⟨0, _⟩ => by show b.val = if (4 : Nat) = 1 then 0 else b.val; rw [if_neg (by decide)]
    | ⟨1, _⟩ => by show n.val = if (2048 : Nat) = 1 then 0 else n.val; rw [if_neg (by decide)]

/-- A column spread over two lanes reads the column. -/
theorem spread2_apply {α : Type} (v : S4x2048x1.Idx → α) (b : Fin 4) (n : Fin 2048) (j : Fin 2) :
    broadcastInDim S4x2048x2 ![0, 1, 2] bcast_S4x2048x1_S4x2048x2_0_1_2 v (ix3 b n j) = v (ix3 b n (0 : Fin 1)) :=
  broadcastInDim_apply _ _ v _ _ fun a => match a with
    | ⟨0, _⟩ => by show b.val = if (4 : Nat) = 1 then 0 else b.val; rw [if_neg (by decide)]
    | ⟨1, _⟩ => by show n.val = if (2048 : Nat) = 1 then 0 else n.val; rw [if_neg (by decide)]
    | ⟨2, _⟩ => by show 0 = if (1 : Nat) = 1 then 0 else j.val; rw [if_pos rfl]

/-- A column spread over 768 lanes reads the column. -/
theorem spread768_apply {α : Type} (v : S4x2048x1.Idx → α) (b : Fin 4) (n : Fin 2048) (o : Fin 768) :
    broadcastInDim S4x2048x768 ![0, 1, 2] bcast_S4x2048x1_S4x2048x768_0_1_2 v (ix3 b n o) = v (ix3 b n (0 : Fin 1)) :=
  broadcastInDim_apply _ _ v _ _ fun a => match a with
    | ⟨0, _⟩ => by show b.val = if (4 : Nat) = 1 then 0 else b.val; rw [if_neg (by decide)]
    | ⟨1, _⟩ => by show n.val = if (2048 : Nat) = 1 then 0 else n.val; rw [if_neg (by decide)]
    | ⟨2, _⟩ => by show 0 = if (1 : Nat) = 1 then 0 else o.val; rw [if_pos rfl]

/-- A row of 768 numbers spread over every token reads the row. -/
theorem row768_apply {α : Type} (v : S768.Idx → α) (b : Fin 4) (n : Fin 2048) (o : Fin 768) :
    broadcastInDim S4x2048x768 ![0, 1, 2] bcast_S1x1x768_S4x2048x768_0_1_2
      (broadcastInDim S1x1x768 ![2] bcast_S768_S1x1x768_2 v) (ix3 b n o) = v (ix1 o) :=
  (broadcastInDim_apply _ _ _ _ (ix3 (0 : Fin 1) (0 : Fin 1) o) fun a => match a with
    | ⟨0, _⟩ => by show 0 = if (1 : Nat) = 1 then 0 else b.val; rw [if_pos rfl]
    | ⟨1, _⟩ => by show 0 = if (1 : Nat) = 1 then 0 else n.val; rw [if_pos rfl]
    | ⟨2, _⟩ => by show o.val = if (768 : Nat) = 1 then 0 else o.val; rw [if_neg (by decide)]).trans
  (broadcastInDim_apply _ _ v _ _ fun a => match a with
    | ⟨0, _⟩ => by show o.val = if (768 : Nat) = 1 then 0 else o.val; rw [if_neg (by decide)])

/-- A row of eight numbers spread over every token reads the row. -/
theorem row8_apply {α : Type} (v : S8.Idx → α) (b : Fin 4) (n : Fin 2048) (e : Fin 8) :
    broadcastInDim S4x2048x8 ![0, 1, 2] bcast_S1x1x8_S4x2048x8_0_1_2
      (broadcastInDim S1x1x8 ![2] bcast_S8_S1x1x8_2 v) (ix3 b n e) = v (ix1 e) :=
  (broadcastInDim_apply _ _ _ _ (ix3 (0 : Fin 1) (0 : Fin 1) e) fun a => match a with
    | ⟨0, _⟩ => by show 0 = if (1 : Nat) = 1 then 0 else b.val; rw [if_pos rfl]
    | ⟨1, _⟩ => by show 0 = if (1 : Nat) = 1 then 0 else n.val; rw [if_pos rfl]
    | ⟨2, _⟩ => by show e.val = if (8 : Nat) = 1 then 0 else e.val; rw [if_neg (by decide)]).trans
  (broadcastInDim_apply _ _ v _ _ fun a => match a with
    | ⟨0, _⟩ => by show e.val = if (8 : Nat) = 1 then 0 else e.val; rw [if_neg (by decide)])

/-! ## Sums over an axis -/

/-- The product of every token's row with the rows of a square matrix. -/
theorem dot768_apply (x : FVec Ideal S4x2048x768 .f32) (w : FVec Ideal S768x768 .f32) (b : Fin 4) (n : Fin 2048) (o : Fin 768) :
    Host.dotGeneral dot_S4x2048x768_S768x768_S4x2048x768_2_1_01_0_n_n none x w (ix3 b n o)
      = ∑ k : Fin 768, x (ix3 b n k) * w (ix2 o k) := by
  simp only [Host.dotGeneral]
  rw [Ideal.dotGeneral_apply,
    ← Equiv.sum_comp (contrEquiv1 dot_S4x2048x768_S768x768_S4x2048x768_2_1_01_0_n_n 768 rfl rfl).symm]
  refine Finset.sum_congr rfl fun k _ => ?_
  have hk := contrEquiv1_symm_val dot_S4x2048x768_S768x768_S4x2048x768_2_1_01_0_n_n 768 rfl rfl k
  congr 1
  · refine congrArg x (funext fun a => Fin.ext ?_)
    match a with
    | ⟨0, _⟩ => exact lhs_free dot_S4x2048x768_S768x768_S4x2048x768_2_1_01_0_n_n _ _ 0 (by decide) (by decide) 0 rfl
    | ⟨1, _⟩ => exact lhs_free dot_S4x2048x768_S768x768_S4x2048x768_2_1_01_0_n_n _ _ 1 (by decide) (by decide) 1 rfl
    | ⟨2, _⟩ => exact (DotDims.lhsIdx_val_of_single _ rfl _ _).trans hk
  · refine congrArg w (funext fun a => Fin.ext ?_)
    match a with
    | ⟨0, _⟩ => exact rhs_free dot_S4x2048x768_S768x768_S4x2048x768_2_1_01_0_n_n _ _ 0 (by decide) (by decide) 2 rfl
    | ⟨1, _⟩ => exact (DotDims.rhsIdx_val_of_single _ rfl _ _).trans hk

/-- The sum of each token's two numbers, from zero. -/
theorem sum2_apply (v : FVec Ideal S4x2048x2 .f32) (b : Fin 4) (n : Fin 2048) :
    Host.reduceAdd v (constant (F := Ideal) S_ .f32 0x00000000#32) reducesTo_S4x2048x2_S4x2048_d2 h_S_ (ix2 b n)
      = 0 + ∑ j : Fin 2, v (ix3 b n j) := by
  simp only [Host.reduceAdd, Ideal.hostReduceAdd_def]
  rw [Ideal.hostReduceAdd_single reducesTo_S4x2048x2_S4x2048_d2 (by decide)]
  congr 1
  · exact Ideal.ofBits_zero_f32
  · exact Finset.sum_congr rfl fun j _ => congrArg v (funext fun a => Fin.ext (match a with
      | ⟨0, _⟩ => rfl
      | ⟨1, _⟩ => rfl
      | ⟨2, _⟩ => rfl))

/-- The maximum of each token's two numbers, from minus infinity. -/
theorem max2_apply (v : FVec Ideal S4x2048x2 .f32) (b : Fin 4) (n : Fin 2048) :
    Host.reduce (FloatOps.maximumf (F := Ideal) (φ := .f32)) v (constant (F := Ideal) S_ .f32 0xFF800000#32)
        reducesTo_S4x2048x2_S4x2048_d2 h_S_ (ix2 b n)
      = (Finset.univ : Finset (Fin 2)).fold max ⊥ fun j => v (ix3 b n j) := by
  rw [Host.reduce_eq_fold_single (FloatOps.maximumf (F := Ideal) (φ := .f32)) v _ reducesTo_S4x2048x2_S4x2048_d2 (by decide) h_S_]
  show (Finset.univ : Finset (Fin 2)).fold max (Ideal.ofBits .f32 0xFF800000#32) _ = _
  rw [ofBits_neg_inf]
  exact congrArg (fun g => (Finset.univ : Finset (Fin 2)).fold max ⊥ g) (funext fun j => congrArg v (funext fun a => Fin.ext (match a with
      | ⟨0, _⟩ => rfl
      | ⟨1, _⟩ => rfl
      | ⟨2, _⟩ => rfl)))

/-! ## The two experts and their shares -/

section

variable (x0 : FVec Ideal S4x2048x768 .f32) (x5 : FVec Ideal S8x768 .f32) (x6 : FVec Ideal S8 .f32) (b : Fin 4) (n : Fin 2048)

/-- The reference's router scores are the token's. -/
theorem scores_apply (e : Fin 8) : val_main_v3 (F := Ideal) x0 x5 x6 (ix3 b n e) = tokenScores x0 x5 x6 b n e := by
  have h0 : val_main_v0 (F := Ideal) x0 x5 (ix3 b n e) = ∑ k : Fin 768, x0 (ix3 b n k) * x5 (ix2 e k) := by
    rw [val_main_v0_apply]
    refine Finset.sum_congr rfl fun k _ => ?_
    have el : lidx_main_v0 (ix3 b n e) k = ix3 b n k := funext fun a => Fin.ext (match a with
      | ⟨0, _⟩ => rfl
      | ⟨1, _⟩ => rfl
      | ⟨2, _⟩ => rfl)
    have er : ridx_main_v0 (ix3 b n e) k = ix2 e k := funext fun a => Fin.ext (match a with
      | ⟨0, _⟩ => rfl
      | ⟨1, _⟩ => rfl)
    rw [el, er]
  rw [val_main_v3_apply, h0]
  exact congrArg ((∑ k : Fin 768, x0 (ix3 b n k) * x5 (ix2 e k)) + ·) (row8_apply x6 b n e)

/-- So a token's fiber of scores is its scores. -/
theorem fiber_eq : fiber (val_main_v3 (F := Ideal) x0 x5 x6) b n = tokenScores x0 x5 x6 b n :=
  funext fun e => scores_apply x0 x5 x6 b n e

/-- The values found are the best and the second score, -/
theorem values_apply (j : Fin 2) : val_main_values (F := Ideal) x0 x5 x6 (ix3 b n j)
    = tokenScores x0 x5 x6 b n (place (tokenScores x0 x5 x6 b n) j) := by
  unfold val_main_values
  refine (topK_values_apply (val_main_v3 (F := Ideal) x0 x5 x6) _ b n j).trans ?_
  rw [fiber_eq]

/-- and the numbers found those of the two experts. -/
theorem indices_apply (j : Fin 2) : val_main_indices (F := Ideal) x0 x5 x6 (ix3 b n j)
    = BitVec.ofNat 32 (place (tokenScores x0 x5 x6 b n) j).val := by
  unfold val_main_indices
  refine (topK_indices_apply (val_main_v3 (F := Ideal) x0 x5 x6) _ b n j).trans ?_
  rw [fiber_eq]

/-- What is subtracted before the exponential is the best score. -/
theorem shift_apply (j : Fin 2) : val_main_v8 (F := Ideal) x0 x5 x6 (ix3 b n j)
    = tokenScores x0 x5 x6 b n (first (tokenScores x0 x5 x6 b n)) := by
  unfold val_main_v8 val_main_v7
  refine ((spread2_apply _ b n j).trans (column_apply _ b n)).trans ?_
  rw [val_main_v6_apply]
  have h4 : val_main_v4 (F := Ideal) x0 x5 x6 (ix2 b n) = (Finset.univ : Finset (Fin 2)).fold max ⊥
      ![tokenScores x0 x5 x6 b n (first (tokenScores x0 x5 x6 b n)), tokenScores x0 x5 x6 b n (second (tokenScores x0 x5 x6 b n))] := by
    unfold val_main_v4
    refine (max2_apply _ b n).trans ?_
    refine congrArg (fun g => (Finset.univ : Finset (Fin 2)).fold max ⊥ g) (funext fun j => ?_)
    rw [values_apply]
    match j with
    | ⟨0, _⟩ => rfl
    | ⟨1, _⟩ => rfl
  have h5 : val_main_v5 (F := Ideal) (ix2 b n) = (⊥ : EReal) := ofBits_neg_inf
  rw [h4, h5]
  exact softmax_shift ((first_leads _).le (Finset.mem_univ _))

/-- The shares are the softmax of the two scores, where the best score is real. -/
theorem shares_apply (hf : ∀ e, ∃ q : ℝ, tokenScores x0 x5 x6 b n e = q) (j : Fin 2) :
    val_main_v14 (F := Ideal) x0 x5 x6 (ix3 b n j) = share (tokenScores x0 x5 x6 b n) j := by
  obtain ⟨u, hu⟩ := hf (first (tokenScores x0 x5 x6 b n))
  have h10 : ∀ j : Fin 2, val_main_v10 (F := Ideal) x0 x5 x6 (ix3 b n j)
      = Ideal.exp ((![(u : EReal), tokenScores x0 x5 x6 b n (second (tokenScores x0 x5 x6 b n))] : Fin 2 → EReal) j - u) := fun j => by
    show Ideal.exp (val_main_values (F := Ideal) x0 x5 x6 (ix3 b n j) - val_main_v8 (F := Ideal) x0 x5 x6 (ix3 b n j)) = _
    rw [values_apply, shift_apply, hu]
    match j with
    | ⟨0, _⟩ => exact congrArg (fun t => Ideal.exp (t - (u : EReal))) hu
    | ⟨1, _⟩ => rfl
  have h13 : val_main_v13 (F := Ideal) x0 x5 x6 (ix3 b n j)
      = 1 + Ideal.exp (tokenScores x0 x5 x6 b n (second (tokenScores x0 x5 x6 b n)) - u) := by
    unfold val_main_v13 val_main_v12
    refine ((spread2_apply _ b n j).trans (column_apply _ b n)).trans ?_
    unfold val_main_v11
    refine (sum2_apply _ b n).trans ?_
    simp only [h10]
    exact softmax_sum u _
  show Ideal.div (val_main_v10 (F := Ideal) x0 x5 x6 (ix3 b n j)) (val_main_v13 (F := Ideal) x0 x5 x6 (ix3 b n j)) = _
  rw [h10, h13]
  unfold share
  rw [hu]
  match j with
  | ⟨0, _⟩ => exact softmax_first u _
  | ⟨1, _⟩ => rfl

end

end Cert.ReferenceIdeal.Rows

end
-- ==== Proof.ReferenceValue.lean ====
/-
  THE REFERENCE'S RESULT is the layer's array (Layer.lean's `layerArray`). One expert's contribution is stated once for every
  expert (`step`); the reference is eight of these in a row (`result_eq_steps`).
-/
module

public import proofs.«01_k».proof.Proof.ReferenceRouting

@[expose] public section

noncomputable section

namespace Cert.ReferenceIdeal.Rows

open Cert.ReferenceIdeal Cert.ReferenceIdeal.Gen Cert.ReferenceIdeal.Read Cert.Moe
open Idealize.ShloMosaic Idealize.ShloMosaic.ValueIdx Idealize.ShloMosaic.TcCoe Idealize.SL.Sem

/-! ## One expert's slices -/

/-- Every expert's matrix lies within the stack of matrices. -/
theorem slab_slices (e : Fin 8) : S8x768x768.Slices ![e.val, 0, 0] S1x768x768 := by revert e; decide

/-- Every expert's bias lies within the stack of biases. -/
theorem strip_slices (e : Fin 8) : S8x768.Slices ![e.val, 0] S1x768 := by revert e; decide

/-- Expert `e`'s matrix out of the stack. -/
def slab (e : Fin 8) (W : FVec Ideal S8x768x768 .f32) : FVec Ideal S768x768 .f32 :=
  shapeCast S768x768 (extractStridedSlice S1x768x768 ![e.val, 0, 0] W (slab_slices e)) shapeCasts_S1x768x768_S768x768

/-- Expert `e`'s bias out of the stack. -/
def strip (e : Fin 8) (v : FVec Ideal S8x768 .f32) : FVec Ideal S768 .f32 :=
  shapeCast S768 (extractStridedSlice S1x768 ![e.val, 0] v (strip_slices e)) shapeCasts_S1x768_S768

/-- The matrix, at an index. -/
theorem slab_apply (e : Fin 8) (W : FVec Ideal S8x768x768 .f32) (h k : Fin 768) : slab e W (ix2 h k) = W (ix3 e h k) := by
  unfold slab
  refine (shapeCast_apply _ _ (ix2 h k) (ix3 (0 : Fin 1) h k) ?_).trans (extractStridedSlice_apply _ W _ _ (ix3 e h k) fun a => match a with
    | ⟨0, _⟩ => rfl
    | ⟨1, _⟩ => (Nat.zero_add _).symm
    | ⟨2, _⟩ => (Nat.zero_add _).symm)
  rw [Shape.rowMajor_val_three, Shape.rowMajor_val_two]
  show (0 * 768 + h.val) * 768 + k.val = h.val * 768 + k.val
  omega

/-- The bias, at an index. -/
theorem strip_apply (e : Fin 8) (v : FVec Ideal S8x768 .f32) (h : Fin 768) : strip e v (ix1 h) = v (ix2 e h) := by
  unfold strip
  refine (shapeCast_apply _ _ (ix1 h) (ix2 (0 : Fin 1) h) ?_).trans (extractStridedSlice_apply _ v _ _ (ix2 e h) fun a => match a with
    | ⟨0, _⟩ => rfl
    | ⟨1, _⟩ => (Nat.zero_add _).symm)
  rw [Shape.rowMajor_val_two, Shape.rowMajor_val_one]
  show 0 * 768 + h.val = h.val
  omega

/-! ## One expert's contribution -/

/-- The reference's operations for one expert: its answer for every token, times the token's weight of that expert, added to
    what the earlier experts left. `num` holds each token's two experts and `sh` their shares. -/
def step (e : Fin 8) (x : FVec Ideal S4x2048x768 .f32) (W : FVec Ideal S8x768x768 .f32) (v : FVec Ideal S8x768 .f32)
    (W' : FVec Ideal S8x768x768 .f32) (v' : FVec Ideal S8x768 .f32) (num : IVec S4x2048x2 32) (sh : FVec Ideal S4x2048x2 .f32)
    (acc : FVec Ideal S4x2048x768 .f32) : FVec Ideal S4x2048x768 .f32 :=
  addf acc (mulf
    (addf
      (Host.dotGeneral dot_S4x2048x768_S768x768_S4x2048x768_2_1_01_0_n_n none
        (maximumf
          (addf (Host.dotGeneral dot_S4x2048x768_S768x768_S4x2048x768_2_1_01_0_n_n none x (slab e W) : FVec Ideal S4x2048x768 .f32)
            (broadcastInDim S4x2048x768 ![0, 1, 2] bcast_S1x1x768_S4x2048x768_0_1_2
              (broadcastInDim S1x1x768 ![2] bcast_S768_S1x1x768_2 (strip e v))))
          (broadcastInDim S4x2048x768 ![] bcast_S_S4x2048x768 (constant (F := Ideal) S_ .f32 0x00000000#32)))
        (slab e W') : FVec Ideal S4x2048x768 .f32)
      (broadcastInDim S4x2048x768 ![0, 1, 2] bcast_S1x1x768_S4x2048x768_0_1_2
        (broadcastInDim S1x1x768 ![2] bcast_S768_S1x1x768_2 (strip e v'))))
    (broadcastInDim S4x2048x768 ![0, 1, 2] bcast_S4x2048x1_S4x2048x768_0_1_2
      (broadcastInDim S4x2048x1 ![0, 1] bcast_S4x2048_S4x2048x1_0_1
        (Host.reduceAdd
          (select (cmpi .eq num (broadcastInDim S4x2048x2 ![] bcast_S_S4x2048x2 (constantI S_ 32 (BitVec.ofNat 32 e.val)))) sh
            (broadcastInDim S4x2048x2 ![] bcast_S_S4x2048x2 (id (constant (F := Ideal) S_ .f32 0x00000000#32))))
          (constant (F := Ideal) S_ .f32 0x00000000#32) reducesTo_S4x2048x2_S4x2048_d2 h_S_))))

/-- What the contribution is at a token and a lane, the token's experts and shares being those of the scores `f`. -/
theorem step_apply (e : Fin 8) (x : FVec Ideal S4x2048x768 .f32) (W : FVec Ideal S8x768x768 .f32) (v : FVec Ideal S8x768 .f32)
    (W' : FVec Ideal S8x768x768 .f32) (v' : FVec Ideal S8x768 .f32) (num : IVec S4x2048x2 32) (sh : FVec Ideal S4x2048x2 .f32)
    (acc : FVec Ideal S4x2048x768 .f32) (b : Fin 4) (n : Fin 2048) (o : Fin 768) (f : Fin 8 → EReal)
    (hn : ∀ j, num (ix3 b n j) = BitVec.ofNat 32 (place f j).val) (hs : ∀ j, sh (ix3 b n j) = share f j) :
    step e x W v W' v' num sh acc (ix3 b n o)
      = acc (ix3 b n o) + expert (fun k => x (ix3 b n k)) (fun h k => W (ix3 e h k)) (fun h => v (ix2 e h))
          (fun h k => W' (ix3 e h k)) (fun h => v' (ix2 e h)) o * weight f e := by
  unfold step
  rw [addf_apply, mulf_apply, addf_apply, dot768_apply, row768_apply, strip_apply, spread768_apply, column_apply, sum2_apply]
  simp only [maximumf_apply, addf_apply, dot768_apply, slab_apply]
  have hz : constant (F := Ideal) S_ .f32 0x00000000#32 ix0 = (0 : EReal) := Ideal.ofBits_zero_f32
  have hw : (0 : EReal) + ∑ j : Fin 2, (select (cmpi .eq num (broadcastInDim S4x2048x2 ![] bcast_S_S4x2048x2
      (constantI S_ 32 (BitVec.ofNat 32 e.val)))) sh (broadcastInDim S4x2048x2 ![] bcast_S_S4x2048x2
        (id (constant (F := Ideal) S_ .f32 0x00000000#32)))) (ix3 b n j) = weight f e := by
    rw [← weight_eq_sum f e]
    refine congrArg (0 + ·) (Finset.sum_congr rfl fun j _ => ?_)
    rw [select_apply, broadcastInDim_scalar_apply]
    show Scalar.select (IntOp.cmpi .eq (num (ix3 b n j)) (BitVec.ofNat 32 e.val)) (sh (ix3 b n j))
      (constant (F := Ideal) S_ .f32 0x00000000#32 ix0) = _
    rw [hn, hs, hz]
    exact select_num _ _ _ _
  rw [hw]
  unfold expert
  refine congrArg (fun t => acc (ix3 b n o) + (t + v' (ix2 e o)) * weight f e) (Finset.sum_congr rfl fun h _ => ?_)
  exact congrArg (· * W' (ix3 e o h)) (congrArg₂ max (congrArg (_ + ·) ((row768_apply _ b n h).trans (strip_apply e v h)))
    ((broadcastInDim_scalar_apply _ _ _).trans hz))

/-! ## The eight contributions -/

section result

variable (x0 : FVec Ideal S4x2048x768 .f32) (x1 : FVec Ideal S8x768x768 .f32) (x2 : FVec Ideal S8x768 .f32)
  (x3 : FVec Ideal S8x768x768 .f32) (x4 x5 : FVec Ideal S8x768 .f32) (x6 : FVec Ideal S8 .f32)

/-- Expert `e`'s step on the arguments. -/
def stepOf (e : Fin 8) (acc : FVec Ideal S4x2048x768 .f32) : FVec Ideal S4x2048x768 .f32 :=
  step e x0 x1 x2 x3 x4 (val_main_indices (F := Ideal) x0 x5 x6) (val_main_v14 (F := Ideal) x0 x5 x6) acc

/-- THE REFERENCE is the eight experts' steps, in order, from zero. -/
theorem result_eq_steps : val_main_v215 (F := Ideal) x0 x1 x2 x3 x4 x5 x6
    = stepOf x0 x1 x2 x3 x4 x5 x6 7 (stepOf x0 x1 x2 x3 x4 x5 x6 6 (stepOf x0 x1 x2 x3 x4 x5 x6 5 (stepOf x0 x1 x2 x3 x4 x5 x6 4
      (stepOf x0 x1 x2 x3 x4 x5 x6 3 (stepOf x0 x1 x2 x3 x4 x5 x6 2 (stepOf x0 x1 x2 x3 x4 x5 x6 1
        (stepOf x0 x1 x2 x3 x4 x5 x6 0 (val_main_v15 (F := Ideal))))))))) := rfl

variable (b : Fin 4) (n : Fin 2048) (hf : ∀ e, ∃ q : ℝ, tokenScores x0 x5 x6 b n e = q)
include hf

/-- Expert `e`'s step at a token and a lane. -/
theorem stepOf_apply (e : Fin 8) (acc : FVec Ideal S4x2048x768 .f32) (o : Fin 768) :
    stepOf x0 x1 x2 x3 x4 x5 x6 e acc (ix3 b n o)
      = acc (ix3 b n o) + expert (fun k => x0 (ix3 b n k)) (fun h k => x1 (ix3 e h k)) (fun h => x2 (ix2 e h))
          (fun h k => x3 (ix3 e h k)) (fun h => x4 (ix2 e h)) o * weight (tokenScores x0 x5 x6 b n) e :=
  step_apply e x0 x1 x2 x3 x4 _ _ acc b n o _ (indices_apply x0 x5 x6 b n) (shares_apply x0 x5 x6 b n hf)

/-- The reference's result at a token and a lane is the layer's answer. -/
theorem result_apply (o : Fin 768) :
    val_main_v215 (F := Ideal) x0 x1 x2 x3 x4 x5 x6 (ix3 b n o) = layer x0 x1 x2 x3 x4 x5 x6 b n o := by
  rw [result_eq_steps]
  simp only [stepOf_apply x0 x1 x2 x3 x4 x5 x6 b n hf]
  unfold layer moeRow
  rw [Fin.sum_univ_eight]
  congr 7
  show Ideal.ofBits .f32 0x00000000#32 + _ = _
  rw [Ideal.ofBits_zero_f32, zero_add]

end result

/-- THE REFERENCE'S RESULT, as an array, where every token's scores are real. -/
theorem result_eq (x0 : FVec Ideal S4x2048x768 .f32) (x1 : FVec Ideal S8x768x768 .f32) (x2 : FVec Ideal S8x768 .f32)
    (x3 : FVec Ideal S8x768x768 .f32) (x4 x5 : FVec Ideal S8x768 .f32) (x6 : FVec Ideal S8 .f32)
    (hf : ∀ b n e, ∃ q : ℝ, tokenScores x0 x5 x6 b n e = q) :
    val_main_v215 (F := Ideal) x0 x1 x2 x3 x4 x5 x6 = layerArray x0 x1 x2 x3 x4 x5 x6 := by
  funext i
  obtain ⟨b, n, o, rfl⟩ : ∃ (b : Fin 4) (n : Fin 2048) (o : Fin 768), i = ix3 b n o := ⟨_, _, _, eq_ix3 i⟩
  exact result_apply x0 x1 x2 x3 x4 x5 x6 b n (hf b n) o

/-- THE REFERENCE'S RUN: where its arguments are `x0` to `x6` and every token's scores are real, the result array ends at the
    layer's array on them, and the arguments unchanged. -/
theorem run (m : (ℓ : Loc nD τ sig) → Buf (Elt Ideal) ℓ) (ρ : Dev nD → PrngReg) (x0 : Dev nD → FVec Ideal S4x2048x768 .f32)
    (x1 : Dev nD → FVec Ideal S8x768x768 .f32) (x2 : Dev nD → FVec Ideal S8x768 .f32) (x3 : Dev nD → FVec Ideal S8x768x768 .f32)
    (x4 x5 : Dev nD → FVec Ideal S8x768 .f32) (x6 : Dev nD → FVec Ideal S8 .f32)
    (hx : ∀ c : Dev nD, m ((c.tc : Thread nD τ).loc main_arg0) = x0 c ∧ m ((c.tc : Thread nD τ).loc main_arg1) = x1 c
      ∧ m ((c.tc : Thread nD τ).loc main_arg2) = x2 c ∧ m ((c.tc : Thread nD τ).loc main_arg3) = x3 c
      ∧ m ((c.tc : Thread nD τ).loc main_arg4) = x4 c ∧ m ((c.tc : Thread nD τ).loc main_arg5) = x5 c
      ∧ m ((c.tc : Thread nD τ).loc main_arg6) = x6 c)
    (hf : ∀ c b n e, ∃ q : ℝ, tokenScores (x0 c) (x5 c) (x6 c) b n e = q) :
    θ_run defs (onTc (τ := τ) (main (F := Ideal))) ⟨m, fun _ => 0, ρ⟩ fun r => ∀ c : Dev nD,
      r.2.mem ((c.tc : Thread nD τ).loc main_v215) = layerArray (x0 c) (x1 c) (x2 c) (x3 c) (x4 c) (x5 c) (x6 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (Cert.ReferenceIdeal.Value.run (F := Ideal) m ρ)
  clear h
  refine (val_main_v215_eq (StableHlo.launchContents m c)).trans ?_
  rw [← result_eq (x0 c) (x1 c) (x2 c) (x3 c) (x4 c) (x5 c) (x6 c) (hf c)]
  obtain ⟨h0, h1, h2, h3, h4, h5, h6⟩ := hx c
  rw [← h0, ← h1, ← h2, ← h3, ← h4, ← h5, ← h6]

end Cert.ReferenceIdeal.Rows

end
-- ==== Proof.Precondition.lean ====
/-
  WHAT THE PRECONDITION GIVES: the token rows, the router's rows and the router's biases are finite, hence real, hence so
  is every token's every score.
-/
module

public import proofs.«01_k».proof.Pre_routed_finite
public import proofs.«01_k».proof.Proof.Layer
public import Idealize.ShloMosaic.Lib.ReduceAll
public import Idealize.ShloMosaic.Lib.Affine
public import Idealize.ShloMosaic.Lib.IdealHost
public import Idealize.ShloMosaic.Lib.Pipeline.Value
public import Idealize.ShloMosaic.PureOps.Ideal.Laws

@[expose] public section

noncomputable section

namespace Cert.Moe

open Idealize.ShloMosaic Idealize.ShloMosaic.ValueIdx

/-- The shape relations the precondition's operations take. -/
theorem preFacts : Cert.Pre_routed_finite.Facts where
  bcast_S_S4x2048x768 := by decide
  reducesTo_S4x2048x768_S_d0_1_2 := by decide
  h_S_ := by decide
  bcast_S_S8x768 := by decide
  reducesTo_S8x768_S_d0_1 := by decide
  bcast_S_S8 := by decide
  reducesTo_S8_S_d0 := by decide

/-- An index of a scalar is the only one. -/
instance scalarIdx : Subsingleton (⟨0, ![]⟩ : Shape).Idx := ⟨fun _ _ => funext fun a => a.elim0⟩

/-- "The absolute value is below plus infinity, everywhere", read at one element: the element is real. -/
theorem real_of_all {s : Shape} {axes : List (Fin s.rank)} (x : FVec Ideal s .f32) (hb : (⟨0, ![]⟩ : Shape).BroadcastsInDim s ![])
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant (F := Ideal) ⟨0, ![]⟩ .f32 0x7F800000#32)))
      (constantI ⟨0, ![]⟩ 1 1#1) hr hu j = 1#1) (i : s.Idx) : ∃ r : ℝ, x i = r := by
  have hi := Host.reduce_andi_all _ _ hr hu j h i
  have hc : FloatOps.cmpf (F := Ideal) (φ := .f32) .olt (max (x i) (-(x i))) (Ideal.ofBits .f32 0x7F800000#32) = 1#1 := by
    rw [cmpf_apply, broadcastInDim_scalar_apply] at hi
    exact hi
  rw [ofBits_inf, Ideal.cmpf_def] at hc
  refine real_of_abs_lt_top ?_
  by_contra hn
  simp [Ideal.cmp, hn] at hc

/-- Under the precondition every token's every score is real. -/
theorem real_scores [Cert.Pre_routed_finite.Facts] (x : FVec Ideal ⟨3, ![4, 2048, 768]⟩ .f32) (W : FVec Ideal ⟨3, ![8, 768, 768]⟩ .f32)
    (v : FVec Ideal ⟨2, ![8, 768]⟩ .f32) (W' : FVec Ideal ⟨3, ![8, 768, 768]⟩ .f32) (v' : FVec Ideal ⟨2, ![8, 768]⟩ .f32)
    (w : FVec Ideal ⟨2, ![8, 768]⟩ .f32) (c : FVec Ideal ⟨1, ![8]⟩ .f32)
    (h : Cert.Pre_routed_finite.fn (F := Ideal) x W v W' v' w c = fun _ => 1#1) (b : Fin 4) (n : Fin 2048) (e : Fin 8) :
    ∃ q : ℝ, tokenScores x w c b n e = q := by
  have h0 := congrFun h ix0
  obtain ⟨h1, hc⟩ := IntOp.andi_eq_one.mp h0
  obtain ⟨hx, hw⟩ := IntOp.andi_eq_one.mp h1
  exact score_real (fun k => real_of_all x _ _ _ ix0 hx _)
    (fun e k => real_of_all w _ _ _ ix0 hw _)
    (fun e => real_of_all c _ _ _ ix0 hc _) e

end Cert.Moe

end
-- ==== Proof.lean ====
/-
  The proof of `Cert.Claim`: the three frames with every counter ending at zero, the preservation, and the value claim. For
  the value claim both programs end holding one array, the layer's answer (Proof/Layer.lean `layerArray`) on the kernel's
  arguments: the kernel by Proof/KernelValue.lean, the reference by Proof/ReferenceValue.lean. The precondition makes the
  scores real (Proof/Precondition.lean), which both need.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import proofs.«01_k».proof.Proof.Precondition
public import Idealize.ShloMosaic.Lib.Claim
public import Idealize.ShloMosaic.Lib.Quiescent

@[expose] public section

noncomputable section

namespace Cert.Proof

open Idealize.ShloMosaic Idealize.SL.Sem

/-- The reference leaves its arguments, and having no semaphore ends with every counter at zero. -/
theorem reference_quiescent : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- From arguments whose routing part is finite, the kernel and the reference end with the same array. -/
theorem algebraic : Cert.algebraic_KernelIdeal_ReferenceIdeal_pre_routed_finite (hKernelIdeal := Cert.KernelIdeal.Gen.facts)
    (hReferenceIdeal := Cert.ReferenceIdeal.Gen.facts) (hPre_routed_finite := Cert.Moe.preFacts) := by
  intro m g m' g' hpre hargs
  have hreal : ∀ c, Cert.KernelIdeal.Block.RealScores m c := fun c b n e =>
    haveI := Cert.Moe.preFacts
    Cert.Moe.real_scores _ _ _ _ _ _ _ (hpre c) b n e
  refine ⟨fun c => Cert.Moe.layerArray (Cert.KernelIdeal.Block.argX m c) (Cert.KernelIdeal.Block.argW m c)
    (Cert.KernelIdeal.Block.argB m c) (Cert.KernelIdeal.Block.argW' m c) (Cert.KernelIdeal.Block.argB' m c)
    (Cert.KernelIdeal.Block.argR m c) (Cert.KernelIdeal.Block.argC m c), ?_, ?_⟩
  · exact (θ_run Cert.KernelIdeal.defs _ _).mono (fun _ h c => ⟨h.1 c, h.2 c⟩)
      (θ_run_and (Cert.KernelIdeal.Block.run m g hreal) (Cert.KernelIdeal.Gen.unchanged (F := Ideal) m g))
  · exact Cert.ReferenceIdeal.Rows.run m' g' (Cert.KernelIdeal.Block.argX m) (Cert.KernelIdeal.Block.argW m)
      (Cert.KernelIdeal.Block.argB m) (Cert.KernelIdeal.Block.argW' m) (Cert.KernelIdeal.Block.argB' m)
      (Cert.KernelIdeal.Block.argR m) (Cert.KernelIdeal.Block.argC m) hargs hreal

/-- EVERYTHING THE CERTIFICATE CLAIMS. -/
theorem claim : Cert.Claim :=
  ⟨Cert.Kernel.Gen.facts, Cert.KernelIdeal.Gen.facts, Cert.ReferenceIdeal.Gen.facts, Cert.Moe.preFacts,
    fun m ρ _ => Cert.Kernel.Gen.frame m ρ, fun m ρ _ => Cert.KernelIdeal.Gen.frame m ρ,
    fun m ρ _ => Cert.KernelIdeal.Gen.frame m ρ, reference_quiescent, fun m ρ _ => reference_quiescent m ρ trivial,
    trivial, algebraic⟩

end Cert.Proof

end
